-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spread_KernelIdeal [hPre_spread_KernelIdeal : Cert.Pre_spread_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_spread_KernelIdeal.fn (F := Ideal) (m ((c.tc : Thread Cert.KernelIdeal.nD Cert.KernelIdeal.τ).loc Cert.KernelIdeal.main_arg0))) = (fun _ => 1#1)

def Pre_KernelIdeal_level [hPre_level : Cert.Pre_level.Facts] (m : (ℓ : Loc Cert.KernelIdeal.nD Cert.KernelIdeal.τ Cert.KernelIdeal.sig) → Buf (Elt Ideal) ℓ) : Prop :=
  ∀ c : Dev Cert.KernelIdeal.nD,
    (Cert.Pre_level.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spread_ReferenceIdeal [hPre_spread_ReferenceIdeal : Cert.Pre_spread_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spread_ReferenceIdeal.fn (F := Ideal) (m ((c.tc : Thread Cert.ReferenceIdeal.nD Cert.ReferenceIdeal.τ).loc Cert.ReferenceIdeal.main_arg0))) = (fun _ => 1#1)

def Pre_ReferenceIdeal_level_whole [hPre_level_whole : Cert.Pre_level_whole.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_level_whole.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_spread_KernelIdeal [hKernelIdeal : Cert.KernelIdeal.Facts] [hPre_spread_KernelIdeal : Cert.Pre_spread_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spread_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_level [hKernelIdeal : Cert.KernelIdeal.Facts] [hPre_level : Cert.Pre_level.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_level m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_spread_ReferenceIdeal [hReferenceIdeal : Cert.ReferenceIdeal.Facts] [hPre_spread_ReferenceIdeal : Cert.Pre_spread_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spread_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_level_whole [hReferenceIdeal : Cert.ReferenceIdeal.Facts] [hPre_level_whole : Cert.Pre_level_whole.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_level_whole m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_spread_KernelIdeal [hKernelIdeal : Cert.KernelIdeal.Facts] [hReferenceIdeal : Cert.ReferenceIdeal.Facts] [hPre_spread_KernelIdeal : Cert.Pre_spread_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spread_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![512, 8192]⟩ (Layout.meshBlock [2, 2, 2] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def holds_KernelIdeal_short_pre_level [hKernelIdeal : Cert.KernelIdeal.Facts] [hPre_level : Cert.Pre_level.Facts] [hPost_short : Cert.Post_short.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_level m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_short.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v1))) = (fun _ => 1#1))

def holds_ReferenceIdeal_flat_pre_level_whole [hReferenceIdeal : Cert.ReferenceIdeal.Facts] [hPre_level_whole : Cert.Pre_level_whole.Facts] [hPost_flat : Cert.Post_flat.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_level_whole m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ (Cert.Post_flat.fn (F := Ideal) (m ((c.tc : Thread Cert.ReferenceIdeal.nD Cert.ReferenceIdeal.τ).loc Cert.ReferenceIdeal.main_arg0)) (r.2.mem ((c.tc : Thread Cert.ReferenceIdeal.nD Cert.ReferenceIdeal.τ).loc Cert.ReferenceIdeal.main_v4))) = (fun _ => 1#1))

def Claim : Prop :=
  ∃ (hKernel : Cert.Kernel.Facts) (hKernelIdeal : Cert.KernelIdeal.Facts) (hReferenceIdeal : Cert.ReferenceIdeal.Facts) (hPre_spread_KernelIdeal : Cert.Pre_spread_KernelIdeal.Facts) (hPre_level : Cert.Pre_level.Facts) (hPre_spread_ReferenceIdeal : Cert.Pre_spread_ReferenceIdeal.Facts) (hPre_level_whole : Cert.Pre_level_whole.Facts) (hPost_short : Cert.Post_short.Facts) (hPost_flat : Cert.Post_flat.Facts),
    quiescent_Kernel (hKernel := hKernel)
    ∧ quiescent_KernelIdeal (hKernelIdeal := hKernelIdeal)
    ∧ quiescent_KernelIdeal_pre_spread_KernelIdeal (hKernelIdeal := hKernelIdeal) (hPre_spread_KernelIdeal := hPre_spread_KernelIdeal)
    ∧ quiescent_KernelIdeal_pre_level (hKernelIdeal := hKernelIdeal) (hPre_level := hPre_level)
    ∧ quiescent_ReferenceIdeal (hReferenceIdeal := hReferenceIdeal)
    ∧ quiescent_ReferenceIdeal_pre_spread_ReferenceIdeal (hReferenceIdeal := hReferenceIdeal) (hPre_spread_ReferenceIdeal := hPre_spread_ReferenceIdeal)
    ∧ quiescent_ReferenceIdeal_pre_level_whole (hReferenceIdeal := hReferenceIdeal) (hPre_level_whole := hPre_level_whole)
    ∧ preserves_Kernel_KernelIdeal
    ∧ algebraic_KernelIdeal_ReferenceIdeal_pre_spread_KernelIdeal (hKernelIdeal := hKernelIdeal) (hReferenceIdeal := hReferenceIdeal) (hPre_spread_KernelIdeal := hPre_spread_KernelIdeal)
    ∧ holds_KernelIdeal_short_pre_level (hKernelIdeal := hKernelIdeal) (hPre_level := hPre_level) (hPost_short := hPost_short)
    ∧ holds_ReferenceIdeal_flat_pre_level_whole (hReferenceIdeal := hReferenceIdeal) (hPre_level_whole := hPre_level_whole) (hPost_flat := hPost_flat)
-- ==== Post_flat.lean ====
abbrev S512x8192 : Shape := ⟨2, ![512, 8192]⟩
abbrev S512x16 : Shape := ⟨2, ![512, 16]⟩
abbrev S_ : Shape := ⟨0, ![]⟩

class Facts : Prop where
  bcast_S_S512x16 : S_.BroadcastsInDim S512x16 (![] : Fin 0 → Fin S512x16.rank)
  reducesTo_S512x16_S_d0_1 : S512x16.ReducesTo [0, 1] S_
  h_S_ : 0 < S_.numel

variable [Facts]

def fn {F : FTy → Type} [FloatOps F] (main_arg0 : FVec F S512x8192 .bf16) (main_arg1 : FVec F S512x16 .f32) : IVec S_ 1 :=
  let main_cst : FVec F S_ .f32 := constant S_ .f32 0x00000000#32
  let main_v0 : FVec F S512x16 .f32 := broadcastInDim S512x16 ![] bcast_S_S512x16 main_cst
  let main_v1 : IVec S512x16 1 := cmpf .oeq main_arg1 main_v0
  let main_c : IVec S_ 1 := constantI S_ 1 1#1
  let main_v2 : IVec S_ 1 := (fun x v => Host.reduce IntOp.andi x v reducesTo_S512x16_S_d0_1 h_S_) main_v1 main_c
  main_v2
-- ==== Post_short.lean ====
abbrev S512x4096 : Shape := ⟨2, ![512, 4096]⟩
abbrev S512x16 : Shape := ⟨2, ![512, 16]⟩
abbrev S512x8 : Shape := ⟨2, ![512, 8]⟩
abbrev S_ : Shape := ⟨0, ![]⟩

class Facts : Prop where
  slices_S512x16_S512x8_0_8 : S512x16.Slices ![0, 8] S512x8
  bcast_S_S512x8 : S_.BroadcastsInDim S512x8 (![] : Fin 0 → Fin S512x8.rank)
  reducesTo_S512x8_S_d0_1 : S512x8.ReducesTo [0, 1] S_
  h_S_ : 0 < S_.numel

variable [Facts]

def fn {F : FTy → Type} [FloatOps F] (main_arg0 : FVec F S512x4096 .bf16) (main_arg1 : FVec F S512x16 .f32) : IVec S_ 1 :=
  let main_v0 : FVec F S512x8 .f32 := (extractStridedSlice S512x8 ![0, 8] · slices_S512x16_S512x8_0_8) main_arg1
  let main_cst : FVec F S_ .f32 := constant S_ .f32 0x00000000#32
  let main_v1 : FVec F S512x8 .f32 := broadcastInDim S512x8 ![] bcast_S_S512x8 main_cst
  let main_v2 : IVec S512x8 1 := cmpf .olt main_v0 main_v1
  let main_c : IVec S_ 1 := constantI S_ 1 1#1
  let main_v3 : IVec S_ 1 := (fun x v => Host.reduce IntOp.andi x v reducesTo_S512x8_S_d0_1 h_S_) main_v2 main_c
  main_v3
-- ==== Pre_level.lean ====
abbrev S512x4096 : Shape := ⟨2, ![512, 4096]⟩
abbrev S_ : Shape := ⟨0, ![]⟩

class Facts : Prop where
  bitsLt_bf16_f32 : FTy.bits .bf16 < FTy.bits .f32
  bcast_S_S512x4096 : S_.BroadcastsInDim S512x4096 (![] : Fin 0 → Fin S512x4096.rank)
  reducesTo_S512x4096_S_d0_1 : S512x4096.ReducesTo [0, 1] S_
  h_S_ : 0 < S_.numel

variable [Facts]

def fn {F : FTy → Type} [FloatOps F] (main_arg0 : FVec F S512x4096 .bf16) : IVec S_ 1 :=
  let main_v0 : FVec F S512x4096 .f32 := (extf .f32 · bitsLt_bf16_f32) main_arg0
  let main_cst : FVec F S_ .f32 := constant S_ .f32 0x00000000#32
  let main_v1 : FVec F S512x4096 .f32 := broadcastInDim S512x4096 ![] bcast_S_S512x4096 main_cst
  let main_v2 : IVec S512x4096 1 := cmpf .oeq main_v0 main_v1
  let main_c : IVec S_ 1 := constantI S_ 1 1#1
  let main_v3 : IVec S_ 1 := (fun x v => Host.reduce IntOp.andi x v reducesTo_S512x4096_S_d0_1 h_S_) main_v2 main_c
  main_v3
-- ==== Pre_level_whole.lean ====
abbrev S512x8192 : Shape := ⟨2, ![512, 8192]⟩
abbrev S_ : Shape := ⟨0, ![]⟩

class Facts : Prop where
  bitsLt_bf16_f32 : FTy.bits .bf16 < FTy.bits .f32
  bcast_S_S512x8192 : S_.BroadcastsInDim S512x8192 (![] : Fin 0 → Fin S512x8192.rank)
  reducesTo_S512x8192_S_d0_1 : S512x8192.ReducesTo [0, 1] S_
  h_S_ : 0 < S_.numel

variable [Facts]

def fn {F : FTy → Type} [FloatOps F] (main_arg0 : FVec F S512x8192 .bf16) : IVec S_ 1 :=
  let main_v0 : FVec F S512x8192 .f32 := (extf .f32 · bitsLt_bf16_f32) main_arg0
  let main_cst : FVec F S_ .f32 := constant S_ .f32 0x00000000#32
  let main_v1 : FVec F S512x8192 .f32 := broadcastInDim S512x8192 ![] bcast_S_S512x8192 main_cst
  let main_v2 : IVec S512x8192 1 := cmpf .oeq main_v0 main_v1
  let main_c : IVec S_ 1 := constantI S_ 1 1#1
  let main_v3 : IVec S_ 1 := (fun x v => Host.reduce IntOp.andi x v reducesTo_S512x8192_S_d0_1 h_S_) main_v2 main_c
  main_v3
-- ==== Pre_spread_KernelIdeal.lean ====
abbrev S512x4096 : Shape := ⟨2, ![512, 4096]⟩
abbrev S512x16 : Shape := ⟨2, ![512, 16]⟩
abbrev S512x1 : Shape := ⟨2, ![512, 1]⟩
abbrev S512x16x256 : Shape := ⟨3, ![512, 16, 256]⟩
abbrev S_ : Shape := ⟨0, ![]⟩
abbrev S512x256 : Shape := ⟨2, ![512, 256]⟩
abbrev S512x15 : Shape := ⟨2, ![512, 15]⟩

class Facts : Prop where
  bitsLt_bf16_f32 : FTy.bits .bf16 < FTy.bits .f32
  slices_S512x4096_S512x16_0_0 : S512x4096.Slices ![0, 0] S512x16
  slices_S512x16_S512x1_0_15 : S512x16.Slices ![0, 15] S512x1
  bcast_S512x1_S512x4096_0_1 : S512x1.BroadcastsInDim S512x4096 (![0, 1] : Fin 2 → Fin S512x4096.rank)
  shapeCasts_S512x4096_S512x16x256 : S512x4096.ShapeCasts S512x16x256
  natLt_1_32 : 1 < 32
  reducesTo_S512x16x256_S512x256_d1 : S512x16x256.ReducesTo [1] S512x256
  h_S_ : 0 < S_.numel
  slices_S512x16_S512x15_0_0 : S512x16.Slices ![0, 0] S512x15
  slices_S512x16_S512x15_0_1 : S512x16.Slices ![0, 1] S512x15
  reducesTo_S512x15_S_d0_1 : S512x15.ReducesTo [0, 1] S_
  bcast_S_S512x256 : S_.BroadcastsInDim S512x256 (![] : Fin 0 → Fin S512x256.rank)
  reducesTo_S512x256_S_d0_1 : S512x256.ReducesTo [0, 1] S_

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x4096 .f32) : FVec F S512x4096 .f32 :=
  let v0 : FVec F S512x4096 .f32 := (fun x => Host.sort S512x4096 1 comparator_f32_d1 x) arg0
  v0

def fn {F : FTy → Type} [FloatOps F] (main_arg0 : FVec F S512x4096 .bf16) : IVec S_ 1 :=
  let main_v0 : FVec F S512x4096 .f32 := (extf .f32 · bitsLt_bf16_f32) main_arg0
  let main_v1 : FVec F S512x4096 .f32 := Host.negf main_v0
  let main_v2 : FVec F S512x4096 .f32 := fn_sort (F := F) main_v1
  let main_v3 : FVec F S512x16 .f32 := (extractStridedSlice S512x16 ![0, 0] · slices_S512x4096_S512x16_0_0) main_v2
  let main_v4 : FVec F S512x16 .f32 := Host.negf main_v3
  let main_v5 : FVec F S512x1 .f32 := (extractStridedSlice S512x1 ![0, 15] · slices_S512x16_S512x1_0_15) main_v4
  let main_v6 : FVec F S512x4096 .f32 := broadcastInDim S512x4096 ![0, 1] bcast_S512x1_S512x4096_0_1 main_v5
  let main_v7 : IVec S512x4096 1 := cmpf .oge main_v0 main_v6
  let main_v8 : IVec S512x16x256 1 := shapeCast S512x16x256 main_v7 shapeCasts_S512x4096_S512x16x256
  let main_v9 : IVec S512x16x256 32 := (extui 32 · natLt_1_32) main_v8
  let main_c : IVec S_ 32 := constantI S_ 32 0#32
  let main_v10 : IVec S512x256 32 := (fun x v => Host.reduce IntOp.addi x v reducesTo_S512x16x256_S512x256_d1 h_S_) main_v9 main_c
  let main_v11 : FVec F S512x15 .f32 := (extractStridedSlice S512x15 ![0, 0] · slices_S512x16_S512x15_0_0) main_v4
  let main_v12 : FVec F S512x15 .f32 := (extractStridedSlice S512x15 ![0, 1] · slices_S512x16_S512x15_0_1) main_v4
  let main_v13 : IVec S512x15 1 := cmpf .ogt main_v11 main_v12
  let main_c_0 : IVec S_ 1 := constantI S_ 1 1#1
  let main_v14 : IVec S_ 1 := (fun x v => Host.reduce IntOp.andi x v reducesTo_S512x15_S_d0_1 h_S_) main_v13 main_c_0
  let main_c_1 : IVec S_ 32 := constantI S_ 32 2#32
  let main_v15 : IVec S512x256 32 := broadcastInDim S512x256 ![] bcast_S_S512x256 main_c_1
  let main_v16 : IVec S512x256 1 := cmpi .sle main_v10 main_v15
  let main_c_2 : IVec S_ 1 := constantI S_ 1 1#1
  let main_v17 : IVec S_ 1 := (fun x v => Host.reduce IntOp.andi x v reducesTo_S512x256_S_d0_1 h_S_) main_v16 main_c_2
  let main_v18 : IVec S_ 1 := andi main_v14 main_v17
  main_v18
-- ==== Pre_spread_ReferenceIdeal.lean ====
abbrev S512x8192 : Shape := ⟨2, ![512, 8192]⟩
abbrev S512x16 : Shape := ⟨2, ![512, 16]⟩
abbrev S512x1 : Shape := ⟨2, ![512, 1]⟩
abbrev S512x32x256 : Shape := ⟨3, ![512, 32, 256]⟩
abbrev S_ : Shape := ⟨0, ![]⟩
abbrev S512x256 : Shape := ⟨2, ![512, 256]⟩
abbrev S512x15 : Shape := ⟨2, ![512, 15]⟩

class Facts : Prop where
  bitsLt_bf16_f32 : FTy.bits .bf16 < FTy.bits .f32
  slices_S512x8192_S512x16_0_0 : S512x8192.Slices ![0, 0] S512x16
  slices_S512x16_S512x1_0_15 : S512x16.Slices ![0, 15] S512x1
  bcast_S512x1_S512x8192_0_1 : S512x1.BroadcastsInDim S512x8192 (![0, 1] : Fin 2 → Fin S512x8192.rank)
  shapeCasts_S512x8192_S512x32x256 : S512x8192.ShapeCasts S512x32x256
  natLt_1_32 : 1 < 32
  reducesTo_S512x32x256_S512x256_d1 : S512x32x256.ReducesTo [1] S512x256
  h_S_ : 0 < S_.numel
  slices_S512x16_S512x15_0_0 : S512x16.Slices ![0, 0] S512x15
  slices_S512x16_S512x15_0_1 : S512x16.Slices ![0, 1] S512x15
  reducesTo_S512x15_S_d0_1 : S512x15.ReducesTo [0, 1] S_
  bcast_S_S512x256 : S_.BroadcastsInDim S512x256 (![] : Fin 0 → Fin S512x256.rank)
  reducesTo_S512x256_S_d0_1 : S512x256.ReducesTo [0, 1] S_

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x8192 .f32) : FVec F S512x8192 .f32 :=
  let v0 : FVec F S512x8192 .f32 := (fun x => Host.sort S512x8192 1 comparator_f32_d1 x) arg0
  v0

def fn {F : FTy → Type} [FloatOps F] (main_arg0 : FVec F S512x8192 .bf16) : IVec S_ 1 :=
  let main_v0 : FVec F S512x8192 .f32 := (extf .f32 · bitsLt_bf16_f32) main_arg0
  let main_v1 : FVec F S512x8192 .f32 := Host.negf main_v0
  let main_v2 : FVec F S512x8192 .f32 := fn_sort (F := F) main_v1
  let main_v3 : FVec F S512x16 .f32 := (extractStridedSlice S512x16 ![0, 0] · slices_S512x8192_S512x16_0_0) main_v2
  let main_v4 : FVec F S512x16 .f32 := Host.negf main_v3
  let main_v5 : FVec F S512x1 .f32 := (extractStridedSlice S512x1 ![0, 15] · slices_S512x16_S512x1_0_15) main_v4
  let main_v6 : FVec F S512x8192 .f32 := broadcastInDim S512x8192 ![0, 1] bcast_S512x1_S512x8192_0_1 main_v5
  let main_v7 : IVec S512x8192 1 := cmpf .oge main_v0 main_v6
  let main_v8 : IVec S512x32x256 1 := shapeCast S512x32x256 main_v7 shapeCasts_S512x8192_S512x32x256
  let main_v9 : IVec S512x32x256 32 := (extui 32 · natLt_1_32) main_v8
  let main_c : IVec S_ 32 := constantI S_ 32 0#32
  let main_v10 : IVec S512x256 32 := (fun x v => Host.reduce IntOp.addi x v reducesTo_S512x32x256_S512x256_d1 h_S_) main_v9 main_c
  let main_v11 : FVec F S512x15 .f32 := (extractStridedSlice S512x15 ![0, 0] · slices_S512x16_S512x15_0_0) main_v4
  let main_v12 : FVec F S512x15 .f32 := (extractStridedSlice S512x15 ![0, 1] · slices_S512x16_S512x15_0_1) main_v4
  let main_v13 : IVec S512x15 1 := cmpf .ogt main_v11 main_v12
  let main_c_0 : IVec S_ 1 := constantI S_ 1 1#1
  let main_v14 : IVec S_ 1 := (fun x v => Host.reduce IntOp.andi x v reducesTo_S512x15_S_d0_1 h_S_) main_v13 main_c_0
  let main_c_1 : IVec S_ 32 := constantI S_ 32 2#32
  let main_v15 : IVec S512x256 32 := broadcastInDim S512x256 ![] bcast_S_S512x256 main_c_1
  let main_v16 : IVec S512x256 1 := cmpi .sle main_v10 main_v15
  let main_c_2 : IVec S_ 1 := constantI S_ 1 1#1
  let main_v17 : IVec S_ 1 := (fun x v => Host.reduce IntOp.andi x v reducesTo_S512x256_S_d0_1 h_S_) main_v16 main_c_2
  let main_v18 : IVec S_ 1 := andi main_v14 main_v17
  main_v18
-- ==== Kernel.lean ====
abbrev S512x4096 : Shape := ⟨2, ![512, 4096]⟩
abbrev S512x16 : Shape := ⟨2, ![512, 16]⟩
abbrev S_ : Shape := ⟨0, ![]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x8 : Shape := ⟨2, ![512, 8]⟩
abbrev S512x12 : Shape := ⟨2, ![512, 12]⟩
abbrev S512x4 : Shape := ⟨2, ![512, 4]⟩
abbrev S512x14 : Shape := ⟨2, ![512, 14]⟩
abbrev S512x2 : Shape := ⟨2, ![512, 2]⟩
abbrev S512x15 : Shape := ⟨2, ![512, 15]⟩

abbrev nBuf : Space → Nat
  | .hbm => 2
  | .vmem => 4
  | .smem => 0
  | _ => 0

abbrev bufTy : (tb : Table) → Fin (tcTables nBuf tb) → BufTy
  | .hbm, ⟨0, _⟩ => ⟨S512x4096, .bf16⟩
  | .hbm, ⟨1, _⟩ => ⟨S512x16, .f32⟩
  | .local _ .vmem, ⟨0, _⟩ => ⟨S512x4096, .bf16⟩
  | .local _ .vmem, ⟨1, _⟩ => ⟨S512x16, .f32⟩
  | .local _ .vmem, ⟨2, _⟩ => ⟨S512x16, .f32⟩
  | .local _ .vmem, ⟨3, _⟩ => ⟨S512x16, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_41 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_40 : BitVec 32 := 4#32
  let v228 : BitVec 32 := Scalar.muli v9 c4_i32_40
  let v229 : BitVec 32 := Scalar.addi c0_i32_41 v228
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v230 : BitVec 32 := Scalar.muli v5 c2_i32_42
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v232 : BitVec 32 := Scalar.muli v8 c1_i32_43
  let v233 : BitVec 32 := Scalar.addi v231 v232
  v233.toNat
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x8192 : Shape := ⟨2, ![512, 8192]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S512x8192, .bf16⟩
  | .hbm, ⟨1, _⟩ => ⟨S512x8192, .f32⟩
  | .hbm, ⟨2, _⟩ => ⟨S512x8192, .f32⟩
  | .hbm, ⟨3, _⟩ => ⟨S512x8192, .i32⟩
  | .hbm, ⟨4, _⟩ => ⟨S512x8192, .f32⟩
  | .hbm, ⟨5, _⟩ => ⟨S512x8192, .i32⟩
  | .hbm, ⟨6, _⟩ => ⟨S512x16, .i32⟩
  | .hbm, ⟨7, _⟩ => ⟨S_, .i32⟩
  | .hbm, ⟨8, _⟩ => ⟨S512x16, .i32⟩
  | .hbm, ⟨9, _⟩ => ⟨S512x16, .i1⟩
  | .hbm, ⟨10, _⟩ => ⟨S_, .i32⟩
  | .hbm, ⟨11, _⟩ => ⟨S512x16, .i32⟩
  | .hbm, ⟨12, _⟩ => ⟨S512x16, .i32⟩
  | .hbm, ⟨13, _⟩ => ⟨S512x16, .i32⟩
  | .hbm, ⟨14, _⟩ => ⟨S512x16x1, .i32⟩
  | .hbm, ⟨15, _⟩ => ⟨S1, .i32⟩
  | .hbm, ⟨16, _⟩ => ⟨S_, .i32⟩
  | .hbm, ⟨17, _⟩ => ⟨S512x16x1, .i32⟩
  | .hbm, ⟨18, _⟩ => ⟨S512x16x1, .i1⟩
  | .hbm, ⟨19, _⟩ => ⟨S1x1x1, .i32⟩
  | .hbm, ⟨20, _⟩ => ⟨S512x16x1, .i32⟩
  | .hbm, ⟨21, _⟩ => ⟨S512x16x1, .i1⟩
  | .hbm, ⟨22, _⟩ => ⟨S512x16x1, .i1⟩
  | .hbm, ⟨23, _⟩ => ⟨S_, .i1⟩
  | .hbm, ⟨24, _⟩ => ⟨S512x16, .i1⟩
  | .hbm, ⟨25, _⟩ => ⟨S512x16, .f32⟩
  | .hbm, ⟨26, _⟩ => ⟨S_, .f32⟩
  | .hbm, ⟨27, _⟩ => ⟨S512x16, .f32⟩
  | .hbm, ⟨28, _⟩ => ⟨S512x16, .f32⟩
  | _, _ => ⟨S512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1_0 : Ref sig .tc := ⟨.hbm, 4, rfl⟩
abbrev main_v2 : Ref sig .tc := ⟨.hbm, 5, rfl⟩
abbrev main_v3 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Values.lean ====
/- What one device computes, as functions of its block: the four sorted lists a lane, the sixteen rounds that take the
   greatest head and shift the lanes that hold it, the two listings of the sixteen values taken, and the merge of a
   device's falling listing with its partner's rising one. Over any float values. -/
module

public import proofs.«01_k».proof.Proof.Gen.KernelIdeal
public import proofs.«01_k».proof.Proof.Gen.KernelIdeal.Skeleton

@[expose] public section

noncomputable section

namespace Cert.TopK

open Cert.KernelIdeal Cert.KernelIdeal.Gen Idealize.ShloMosaic Idealize.SL.Sem

variable {F : FTy → Type} [FloatOps F]

/-- Four entries to each of the 128 lanes of each row. -/
structure Lanes (F : FTy → Type) where
  s1 : FVec F S512x128 .f32
  s2 : FVec F S512x128 .f32
  s3 : FVec F S512x128 .f32
  s4 : FVec F S512x128 .f32

/-- The greatest head of each row. -/
def headMax (s : FVec F S512x128 .f32) : FVec F S512x1 .f32 :=
  shapeCast S512x1 (multiReduction .maximumf [1] S512 s 0xFF800000#32 reduces_S512x128_S512 (.inl rfl) rfl) shapeCasts_S512_S512x1

/-- The lanes whose head is their row's greatest. -/
def atMax (s : FVec F S512x128 .f32) : IVec S512x128 1 :=
  cmpf .oeq s (broadcastTo S512x128 (headMax s) broadcasts_S512x1_S512x128)

/-- Minus infinity in every lane. -/
def bottoms : FVec F S512x128 .f32 := broadcast S512x128 (Scalar.ofBits .f32 0xFF800000#32)

/-- One round's shift: the lanes whose head is their row's greatest lose it. -/
def pop (q : Lanes F) : Lanes F where
  s1 := select (atMax q.s1) q.s2 q.s1
  s2 := select (atMax q.s1) q.s3 q.s2
  s3 := select (atMax q.s1) q.s4 q.s3
  s4 := select (atMax q.s1) bottoms q.s4

/-- The lanes after part 1 and 2's chunk pass, before the first round. -/
def lanes0 (v19 : FVec F S512x4096 .f32) (v39 v40 v41 v42 : FVec F S512x256 .f32) : Lanes F where
  s1 := k0_pay45 v19 v39 v41
  s2 := k0_pay46 v19 v39 v40 v41 v42
  s3 := k0_pay47 v19 v39 v40 v41 v42
  s4 := k0_pay48 v19 v39 v40 v41 v42

/-- The lanes a device starts its rounds from. -/
def lanesOf (x : Vec F S512x4096 .bf16) : Lanes F := lanes0 (k0_pay2 x) (k0_pay13 x) (k0_pay14 x) (k0_pay15 x) (k0_pay16 x)

/-- The lanes after `i` rounds. -/
def after : ℕ → Lanes F → Lanes F
  | 0, q => q
  | i + 1, q => pop (after i q)

/-- The value round `i` takes. -/
def taken (q : Lanes F) (i : ℕ) : FVec F S512x1 .f32 := headMax (after i q).s1

/-- The values taken, first to last. -/
def falling (q : Lanes F) : FVec F S512x16 .f32 :=
  concatenate S512x16 1 [⟨S512x1, taken q 0⟩, ⟨S512x1, taken q 1⟩, ⟨S512x1, taken q 2⟩, ⟨S512x1, taken q 3⟩, ⟨S512x1, taken q 4⟩,
    ⟨S512x1, taken q 5⟩, ⟨S512x1, taken q 6⟩, ⟨S512x1, taken q 7⟩, ⟨S512x1, taken q 8⟩, ⟨S512x1, taken q 9⟩, ⟨S512x1, taken q 10⟩,
    ⟨S512x1, taken q 11⟩, ⟨S512x1, taken q 12⟩, ⟨S512x1, taken q 13⟩, ⟨S512x1, taken q 14⟩, ⟨S512x1, taken q 15⟩]
    concatenates_S512x1_S512x1_S512x1_S512x1_S512x1_S512x1_S512x1_S512x1_S512x1_S512x1_S512x1_S512x1_S512x1_S512x1_S512x1_S512x1_S512x16_d1

/-- The values taken, last to first: what is sent. -/
def rising (q : Lanes F) : FVec F S512x16 .f32 :=
  shapeCast S512x16 (concatenate S512x16 1 [⟨S512x1, taken q 15⟩, ⟨S512x1, taken q 14⟩, ⟨S512x1, taken q 13⟩, ⟨S512x1, taken q 12⟩,
    ⟨S512x1, taken q 11⟩, ⟨S512x1, taken q 10⟩, ⟨S512x1, taken q 9⟩, ⟨S512x1, taken q 8⟩, ⟨S512x1, taken q 7⟩, ⟨S512x1, taken q 6⟩,
    ⟨S512x1, taken q 5⟩, ⟨S512x1, taken q 4⟩, ⟨S512x1, taken q 3⟩, ⟨S512x1, taken q 2⟩, ⟨S512x1, taken q 1⟩, ⟨S512x1, taken q 0⟩]
    concatenates_S512x1_S512x1_S512x1_S512x1_S512x1_S512x1_S512x1_S512x1_S512x1_S512x1_S512x1_S512x1_S512x1_S512x1_S512x1_S512x1_S512x16_d1)
    shapeCasts_S512x16_S512x16

/-- The merge of a falling listing with a rising one. -/
def merged (a b : FVec F S512x16 .f32) : FVec F S512x16 .f32 := k0_pay1 (k0_pay132 a b) k0_pay133 0#32

/-! ## The printed parts return these -/

section Parts

variable (x : Vec F S512x4096 .bf16) (q : Lanes F)
  (arg0 : Memref sig .tc .vmem S512x4096 .bf16) (harg0 : arg0.IsWhole) (arg1 arg2 arg3 : Memref sig .tc .vmem S512x16 .f32)
  (harg1 : arg1.IsWhole) (harg2 : arg2.IsWhole) (harg3 : arg3.IsWhole) (arg4 arg5 : DmaSems sig S_)

/-- Part 2: the first round, the last list's shift left to part 3. -/
theorem part2_eq : k0_part2 (F := F) arg0 harg0 arg1 harg1 arg2 harg2 arg3 harg3 arg4 arg5 (k0_pay2 x) (k0_pay13 x) (k0_pay14 x) (k0_pay15 x) (k0_pay16 x)
    = .ret ⟨(lanesOf x).s4, taken (lanesOf x) 0, atMax (lanesOf x).s1, (pop (lanesOf x)).s1, (pop (lanesOf x)).s2, (pop (lanesOf x)).s3⟩ := rfl

/-- Part 3: rounds one to five. -/
theorem part3_eq : k0_part3 (F := F) arg0 harg0 arg1 harg1 arg2 harg2 arg3 harg3 arg4 arg5 q.s4 (atMax q.s1) (pop q).s1 (pop q).s2 (pop q).s3
    = .ret ⟨taken q 1, taken q 2, taken q 3, taken q 4, taken q 5, (after 6 q).s1, (after 6 q).s2, (after 6 q).s3, (after 6 q).s4,
        multiReduction .maximumf [1] S512 (after 6 q).s1 0xFF800000#32 reduces_S512x128_S512 (.inl rfl) rfl⟩ := rfl

/-- Part 4: rounds six to ten, and the eleventh up to the shift of its last lists. -/
theorem part4_eq : k0_part4 (F := F) arg0 harg0 arg1 harg1 arg2 harg2 arg3 harg3 arg4 arg5 (after 6 q).s1 (after 6 q).s2 (after 6 q).s3 (after 6 q).s4
      (multiReduction .maximumf [1] S512 (after 6 q).s1 0xFF800000#32 reduces_S512x128_S512 (.inl rfl) rfl)
    = .ret ⟨taken q 6, taken q 7, taken q 8, taken q 9, taken q 10, (after 11 q).s3, (after 11 q).s4, taken q 11, atMax (after 11 q).s1,
        (after 12 q).s1, (after 12 q).s2⟩ := rfl

/-- Part 5's first listing: the values taken, first to last, -/
theorem falling_eq : k0_pay130 (taken q 0) (taken q 1) (taken q 2) (taken q 3) (taken q 4) (taken q 5) (taken q 6) (taken q 7) (taken q 8) (taken q 9)
      (taken q 10) (after 11 q).s3 (after 11 q).s4 (taken q 11) (atMax (after 11 q).s1) (after 12 q).s1 (after 12 q).s2 = falling q := rfl

/-- and the listing it stores: last to first. -/
theorem rising_eq : k0_pay131 (taken q 0) (taken q 1) (taken q 2) (taken q 3) (taken q 4) (taken q 5) (taken q 6) (taken q 7) (taken q 8) (taken q 9)
      (taken q 10) (after 11 q).s3 (after 11 q).s4 (taken q 11) (atMax (after 11 q).s1) (after 12 q).s1 (after 12 q).s2 = rising q := rfl

end Parts

end Cert.TopK

end
-- ==== Proof.Protocol.lean ====
/- The handshake of the two devices of a pair, as a one-round schedule: each device's barrier cell is paid once by its
   partner, which hands over the buffer it will receive into; each device's receive cell is paid by its partner's
   transfer, which leaves the partner's rising listing there; its send cell gives the sent buffer back. -/
module

public import proofs.«01_k».proof.Proof.Values
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's rounds beside the handshake's. -/
abbrev Ghost : Type := UR sig nD τ × UR sig nD τ

local notation "𝕄" => MT nD τ sig Unit (Elt F) ℕ Ghost ℕ

abbrev inPipe : Emb (UR sig nD τ) (MT nD τ sig Unit (Elt F) ℕ Ghost ℕ) := embL
abbrev inHand : Emb (UR sig nD τ) (MT nD τ sig Unit (Elt F) ℕ Ghost ℕ) := embR

variable (m : (ℓ : Loc nD τ sig) → Buf (Elt F) ℓ) (ρ : Dev nD → PrngReg)

/-- The launch state on memory `m`: all counters zero. -/
def launched : MemSt nD τ sig (Elt F) := ⟨m, fun _ => 0, ρ⟩

/-! ## The pairs -/

/-- The device at the other coordinate of the first mesh axis. -/
def partner (c : Dev nD) : Dev nD := ⟨(c.val + 4) % 8, Nat.mod_lt _ (by decide)⟩

theorem partner_partner (c : Dev nD) : partner (partner c) = c := by revert c; decide

theorem dev1_partner (c : Dev nD) : (⟨k0_dev1 c, k0_dev1_lt c⟩ : Dev nD) = partner c := by revert c; decide
theorem dev2_partner (c : Dev nD) : (⟨k0_dev2 c, k0_dev2_lt c⟩ : Dev nD) = partner c := by revert c; decide

/-- The exchange as a permutation of the devices. -/
def exchange : Dev nD ≃ Dev nD := ⟨partner, partner, partner_partner, partner_partner⟩

/-! ## Buffers and cells -/

abbrev blockM : Memref sig .tc .vmem S512x4096 .bf16 := Memref.whole cc0_stg0_0
abbrev outM : Memref sig .tc .vmem S512x16 .f32 := Memref.whole cc0_stg1_0
abbrev sentM : Memref sig .tc .vmem S512x16 .f32 := Memref.whole cc0_scratch0
abbrev gotM : Memref sig .tc .vmem S512x16 .f32 := Memref.whole cc0_scratch1

abbrev barSem : Sem sig := (SemArray.scalar (sig.barrier 0 rfl) : Sems sig S_).sem
abbrev outSem : DmaSem sig := (cc0_scratch2 : DmaSems sig S_).sem
abbrev inSem : DmaSem sig := (cc0_scratch3 : DmaSems sig S_).sem

abbrev barAt (c : Dev nD) : GSem nD τ sig := ((c : Thread nD τ), .reg barSem)
abbrev outAt (c : Dev nD) : GSem nD τ sig := ((c : Thread nD τ), .dma outSem)
abbrev inAt (c : Dev nD) : GSem nD τ sig := ((c : Thread nD τ), .dma inSem)

/-- The kernel's two scoped semaphores, as the launch lists them; -/
abbrev scopedSem : Fin 2 → SemLoc sig := fun | 0 => .dma outSem | 1 => .dma inSem
/-- with the barrier's, the three of the handshake. -/
abbrev handSem : Fin 3 → SemLoc sig := fun | 0 => .reg barSem | 1 => .dma outSem | 2 => .dma inSem
abbrev handCell (ck : Dev nD × Fin 3) : GSem nD τ sig := ((ck.1 : Thread nD τ), handSem ck.2)

theorem out_ne_bar : (SemLoc.dma outSem : SemLoc sig) ≠ .reg barSem := fun h => by cases h
theorem in_ne_bar : (SemLoc.dma inSem : SemLoc sig) ≠ .reg barSem := fun h => by cases h
theorem out_ne_in : (SemLoc.dma outSem : SemLoc sig) ≠ .dma inSem := by decide

/-- What one whole transfer pays. -/
abbrev credits : ℕ := (gotM : Memref sig .tc .vmem S512x16 .f32).view.dmaCredit
theorem credits_pos : 0 < credits := View.dmaCredit_pos _ (by decide)

/-! ## Contents -/

/-- Device `c`'s block, as staged. -/
def blockOf (c : Dev nD) : (cc0_stg0_0 : Ref sig .tc).ty.Contents (Elt F) :=
  (win0_0.blk (0 : Fin 1)).view.read (Elt F) ((launched m ρ).mem ((c : Thread nD τ).loc main_arg0))

/-- What device `c` sends. -/
def sends (c : Dev nD) : (cc0_scratch0 : Ref sig .tc).ty.Contents (Elt F) := rising (lanesOf (blockOf m ρ c))

/-- What device `c` stores as its result. -/
def result (c : Dev nD) : (cc0_stg1_0 : Ref sig .tc).ty.Contents (Elt F) :=
  merged (falling (lanesOf (blockOf m ρ c))) (sends m ρ (partner c))

/-- The received buffer's points-to, at contents `f`; -/
def gotPts (c : Dev nD) (f : Buf (Elt F) ((gotM : Memref sig .tc .vmem S512x16 .f32).view.loc (c : Thread nD τ))) : sProp 𝕄 :=
  (gotM : Memref sig .tc .vmem S512x16 .f32).view.loc (c : Thread nD τ) ↦[(gotM : Memref sig .tc .vmem S512x16 .f32).view.set]{fullShare} f
/-- the sent one's. -/
def sentPts (c : Dev nD) (f : Buf (Elt F) ((sentM : Memref sig .tc .vmem S512x16 .f32).view.loc (c : Thread nD τ))) : sProp 𝕄 :=
  (sentM : Memref sig .tc .vmem S512x16 .f32).view.loc (c : Thread nD τ) ↦[(sentM : Memref sig .tc .vmem S512x16 .f32).view.set]{fullShare} f

/-- What device `c`'s received buffer holds once the transfer is in. -/
def arrived (c : Dev nD) : Buf (Elt F) ((gotM : Memref sig .tc .vmem S512x16 .f32).view.loc (c : Thread nD τ)) := sends m ρ (partner c)

omit [FloatOps F] in
instance gotPts_storable (c : Dev nD) (f) : BI.Storable (upEmb : UEmb _ 𝕄) (gotPts (F := F) c f) := by unfold gotPts; infer_instance
omit [FloatOps F] in
instance sentPts_storable (c : Dev nD) (f) : BI.Storable (upEmb : UEmb _ 𝕄) (sentPts (F := F) c f) := by unfold sentPts; infer_instance

omit [FloatOps F] in
theorem gotPts_whole (c : Dev nD) (f : Buf (Elt F) ((c : Thread nD τ).loc cc0_scratch1)) :
    gotPts c f = (((c : Thread nD τ).loc cc0_scratch1) ↦{fullShare} f : sProp 𝕄) := by unfold gotPts; rw [View.set_whole]
omit [FloatOps F] in
theorem sentPts_whole (c : Dev nD) (f : Buf (Elt F) ((c : Thread nD τ).loc cc0_scratch0)) :
    sentPts c f = (((c : Thread nD τ).loc cc0_scratch0) ↦{fullShare} f : sProp 𝕄) := by unfold sentPts; rw [View.set_whole]

omit [FloatOps F] in
/-- A whole transfer leaves the sent contents, whatever was there. -/
theorem transfer_writes (c : Dev nD) (old : Buf (Elt F) ((gotM : Memref sig .tc .vmem S512x16 .f32).view.loc (c : Thread nD τ)))
    (f : (cc0_scratch0 : Ref sig .tc).ty.Contents (Elt F)) :
    (gotM : Memref sig .tc .vmem S512x16 .f32).view.write (Elt F) old ((sentM : Memref sig .tc .vmem S512x16 .f32).view.read (Elt F) f) Finset.univ = f := by
  show (View.whole cc0_scratch1).write (Elt F) old ((View.whole cc0_scratch0).read (Elt F) f) Finset.univ = f
  rw [View.read_whole]; exact View.write_whole_univ _ _ _

/-! ## The schedule -/

/-- What a cell's one payment hands over, by the cell's semaphore. -/
def handed (c : Dev nD) (s : SemLoc sig) : sProp 𝕄 :=
  if s = .reg barSem then iprop((∃ f, gotPts (partner c) f) ∗ reached inHand (inAt (partner c)) 0)
  else if s = .dma inSem then gotPts c (arrived m ρ c)
  else if s = .dma outSem then sentPts c (sends m ρ c)
  else iprop(emp)

theorem handed_bar (c : Dev nD) : handed m ρ c (.reg barSem) = iprop((∃ f, gotPts (partner c) f) ∗ reached inHand (inAt (partner c)) 0) := if_pos rfl
theorem handed_in (c : Dev nD) : handed m ρ c (.dma inSem) = gotPts c (arrived m ρ c) := (if_neg in_ne_bar).trans (if_pos rfl)
theorem handed_out (c : Dev nD) : handed m ρ c (.dma outSem) = sentPts c (sends m ρ c) :=
  (if_neg out_ne_bar).trans ((if_neg out_ne_in).trans (if_pos rfl))

/-- Is the cell one of the handshake's? -/
abbrev OfHand (g : GSem nD τ sig) : Prop := g.1.2 = .tc ∧ ∃ k, g.2 = handSem k

/-- One round: each cell of the handshake is paid once. -/
def sched : Rounds.Schedule (GSem nD τ sig) Unit 𝕄 where
  duties g r := if r = 0 ∧ OfHand g then {()} else ∅
  unitless _ := False
  amount g _ _ := if g.2 = .reg barSem then 1 else credits
  payload g _ _ := handed m ρ g.1.1 g.2
  amount_pos g _ _ _ := by
    by_cases h : g.2 = .reg barSem
    · rw [if_pos h]; exact Nat.one_pos
    · rw [if_neg h]; exact credits_pos

instance sched_storable (g : GSem nD τ sig) (r : ℕ) (d : Unit) : BI.Storable (upEmb : UEmb _ 𝕄) ((sched (F := F) m ρ).payload g r d) := by
  show BI.Storable upEmb (handed m ρ g.1.1 g.2)
  unfold handed
  (repeat' split) <;> infer_instance

section Schedule

variable (c : Dev nD) (k : Fin 3)

theorem duties_hand : (sched (F := F) m ρ).duties (handCell (c, k)) 0 = {()} := if_pos ⟨rfl, rfl, k, rfl⟩
theorem duties_after (g : GSem nD τ sig) : ∀ r, 1 ≤ r → (sched (F := F) m ρ).duties g r = ∅ := fun r hr => if_neg fun h => by omega
theorem duty_mem (u : Unit) : u ∈ (sched (F := F) m ρ).duties (handCell (c, k)) 0 := by rw [duties_hand]; exact Finset.mem_singleton_self _

theorem payload_bar (u : Unit) : (sched (F := F) m ρ).payload (barAt c) 0 u = iprop((∃ f, gotPts (partner c) f) ∗ reached inHand (inAt (partner c)) 0) :=
  handed_bar m ρ c
theorem payload_out (u : Unit) : (sched (F := F) m ρ).payload (outAt c) 0 u = sentPts c (sends m ρ c) := handed_out m ρ c
theorem payload_in (u : Unit) : (sched (F := F) m ρ).payload (inAt c) 0 u = gotPts c (arrived m ρ c) := handed_in m ρ c

theorem amount_bar (u : Unit) : (sched (F := F) m ρ).amount (barAt c) 0 u = 1 := by dsimp only [sched]; exact if_pos rfl
theorem amount_out (u : Unit) : (sched (F := F) m ρ).amount (outAt c) 0 u = credits := by dsimp only [sched]; exact if_neg out_ne_bar
theorem amount_in (u : Unit) : (sched (F := F) m ρ).amount (inAt c) 0 u = credits := by dsimp only [sched]; exact if_neg in_ne_bar

theorem expect_hand : (sched (F := F) m ρ).expect (handCell (c, k)) 0 = (sched (F := F) m ρ).amount (handCell (c, k)) 0 () := by
  unfold Schedule.expect Schedule.amountOf; rw [duties_hand, Finset.sum_singleton]

theorem rest_hand : bigSep ((sched (F := F) m ρ).duties (handCell (c, k)) 0 \ ∅) (fun u => (sched (F := F) m ρ).payload (handCell (c, k)) 0 u)
    = handed m ρ c (handSem k) := by
  rw [Finset.sdiff_empty, duties_hand, bigSep_singleton]; rfl

end Schedule

/-! ## What each device owes at launch, and the order of the cells -/

/-- Device `c` owes its partner's receive cell a transfer and its partner's barrier cell one unit. -/
def owedAt (c : Dev nD) : CellTallies nD τ sig Unit := tallyAt (inAt (partner c)) () credits + tallyAt (barAt (partner c)) () 1

def tracked (g : GSem nD τ sig) : Finset Unit := if g.1.2 = .tc then {()} else ∅
/-- Barrier cells below receive cells, all others below both. -/
def level (g : GSem nD τ sig) (_ : Unit) : ℕ := if g.2 = .reg barSem then 1 else if g.2 = .dma inSem then 2 else 0

theorem tracked_other (g : GSem nD τ sig) (h : g.1.2 ≠ .tc) : tracked g = ∅ := if_neg h
theorem tracked_tc (c : Dev nD) (s : SemLoc sig) (u : Unit) : u ∈ tracked ((c : Thread nD τ), s) := by
  rw [show tracked ((c : Thread nD τ), s) = {()} from if_pos rfl]; exact Finset.mem_singleton_self _
theorem level_bar (c : Dev nD) (u : Unit) : level (barAt c) u = 1 := if_pos rfl
theorem level_in (c : Dev nD) (u : Unit) : level (inAt c) u = 2 := (if_neg in_ne_bar).trans (if_pos rfl)

theorem tallyAt_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem owedAt_pos {c : Dev nD} {g : GSem nD τ sig} {u : Unit} (h : 0 < owedAt c g u) : g = inAt (partner c) ∨ g = barAt (partner c) := by
  unfold owedAt at h
  rw [Pi.add_apply, Finsupp.add_apply] at h
  rcases Nat.eq_zero_or_pos ((tallyAt (inAt (partner c)) () credits : CellTallies nD τ sig Unit) g u) with h0 | h0
  · rw [h0, Nat.zero_add] at h; exact .inr (tallyAt_pos h)
  · exact .inl (tallyAt_pos h0)

omit [FloatOps F] in
/-- A staging or send cell may be waited on whatever the device owes, -/
theorem mayWait_low (c : Dev nD) (q : DmaSem sig) (hq : SemLoc.dma q ≠ .dma inSem) (O : CellTallies nD τ sig Unit) (hO : O = owedAt c ∨ O = 0) :
    (levAts tracked level : sProp 𝕄) ⊢ MayWait (c : Thread nD τ) (.dma q) () O := by
  rcases hO with rfl | rfl
  · refine MayOwe.of_cut (L := tracked) (lev := level) 0 (fun p hp => by rw [Finset.mem_singleton.mp hp]; exact tracked_tc c _ _) ?_
      (fun p hp => by rw [Finset.mem_singleton.mp hp]; unfold level; rw [if_neg (fun h => by cases h), if_neg hq]) ?_
    · intro g u hg; rcases owedAt_pos hg with rfl | rfl <;> exact tracked_tc _ _ _
    · intro g u hg
      rcases owedAt_pos hg with rfl | rfl
      · rw [level_in]; decide
      · rw [level_bar]; decide
  · rw [MayWait_zero]; iintro -; iempintro

omit [FloatOps F] in
/-- and the barrier cell once only the transfer is owed. -/
theorem mayWait_bar (c : Dev nD) : (levAts tracked level : sProp 𝕄) ⊢ MayWait (c : Thread nD τ) (.reg barSem) () (tallyAt (inAt (partner c)) () credits) := by
  refine MayOwe.of_cut (L := tracked) (lev := level) 1 (fun p hp => by rw [Finset.mem_singleton.mp hp]; exact tracked_tc c _ _) ?_
    (fun p hp => by rw [Finset.mem_singleton.mp hp]; exact le_of_eq (level_bar c _)) ?_
  · intro g u hg; rw [tallyAt_pos hg]; exact tracked_tc _ _ _
  · intro g u hg; rw [tallyAt_pos hg, level_in]; decide

/-! ## A device's state before and after its body -/

/-- The cells' records device `c`'s body opens: its own three, its partner's barrier and receive cells. -/
def opened (K : Dev nD × Fin 3 → ℕ) (c : Dev nD) : sProp 𝕄 :=
  iprop(cellInv inHand (sched m ρ) (K (c, 0)) (barAt c) ∗ cellInv inHand (sched m ρ) (K (c, 1)) (outAt c) ∗ cellInv inHand (sched m ρ) (K (c, 2)) (inAt c)
    ∗ cellInv inHand (sched m ρ) (K (partner c, 0)) (barAt (partner c)) ∗ cellInv inHand (sched m ρ) (K (partner c, 2)) (inAt (partner c)))

instance opened_persistent (K : Dev nD × Fin 3 → ℕ) (c : Dev nD) : BI.Persistent (opened m ρ K c) := by unfold opened; infer_instance

/-- The three payments device `c` makes. -/
def pays (c : Dev nD) : sProp 𝕄 :=
  iprop(dutyTok inHand (barAt (partner c)) 0 () ∗ dutyTok inHand (inAt (partner c)) 0 () ∗ dutyTok inHand (outAt c) 0 ())

def hand (K : Dev nD × Fin 3 → ℕ) (c : Dev nD) : sProp 𝕄 :=
  iprop(opened m ρ K c
    ∗ (atPos inHand (barAt c) 0 ∅ 0 ∗ atPos inHand (outAt c) 0 ∅ 0 ∗ atPos inHand (inAt c) 0 ∅ 0)
    ∗ (reached inHand (barAt (partner c)) 0 ∗ reached inHand (inAt (partner c)) 0 ∗ reached inHand (outAt c) 0 ∗ reached inHand (inAt c) 0)
    ∗ pays c)

def given (c : Dev nD) : sProp 𝕄 :=
  iprop((∃ K, hand m ρ K c) ∗ cred (tallyAt (barAt c) () 1) ∗ cred (tallyAt (inAt c) () credits) ∗ levAts tracked level)

def before (c : Dev nD) : sProp 𝕄 := iprop(given m ρ c ∗ (∃ f, sentPts c f) ∗ ∃ f, gotPts c f)
def done (c : Dev nD) : sProp 𝕄 :=
  iprop((sentPts c (sends m ρ c) ∗ gotPts c (arrived m ρ c)) ∗ semVal (outAt c) 0 ∗ semVal (inAt c) 0 ∗ semVal (barAt c) 0)

/-- The pipeline's data: the block stays, the result is written, the handshake runs at the one point. -/
def data (_ : Fin 1) (c : Dev nD) : Dat τ (Elt F) Unit ℕ Ghost ℕ cfg0 c where
  A w := (launched m ρ).mem ((cfg0.win w).arr.view.loc (c : Thread nD τ))
  after w _ := match w with
    | ⟨0, _⟩ => blockOf m ρ c
    | ⟨1, _⟩ => result m ρ c
  Φ t := match t with
    | ⟨0, _⟩ => before m ρ c
    | ⟨_ + 1, _⟩ => done m ρ c
  q _ := fullShare
  owed t := match t with
    | ⟨0, _⟩ => owedAt c
    | ⟨_ + 1, _⟩ => 0

end Cert.TopK

end
-- ==== Proof.Body.lean ====
/- The body of one device, run once at a symbolic device: the signal, the local listing stored and sent, the two waits,
   the merge stored. -/
module

public import proofs.«01_k».proof.Proof.Protocol

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ) (ρ : Dev nD → PrngReg)

abbrev noVariants : Variants := Variants.none

/-! ## Whole-buffer accesses -/

abbrev wholeX : Rect S512x4096 := Rect.unit (s := S512x4096) ![0, 0] S512x4096.size inb_S512x4096_S512x4096_0_0
abbrev wholeK : Rect S512x16 := Rect.unit (s := S512x16) ![0, 0] S512x16.size inb_S512x16_S512x16_0_0

theorem origin : (![0, 0] : Fin 2 → Nat) = fun _ => 0 := funext fun a => by fin_cases a <;> rfl

omit [FloatOps F] in
theorem load_block (f : (cc0_stg0_0 : Ref sig .tc).ty.Contents (Elt F)) : (blockM : Memref sig .tc .vmem S512x4096 .bf16).view.readAt (Elt F) wholeX.toLoadRect f = f :=
  Memref.readAt_unit_zero (Elt F) cc0_stg0_0 origin _ f
omit [FloatOps F] in
theorem load_got (f : (cc0_scratch1 : Ref sig .tc).ty.Contents (Elt F)) : (gotM : Memref sig .tc .vmem S512x16 .f32).view.readAt (Elt F) wholeK.toLoadRect f = f :=
  Memref.readAt_unit_zero (Elt F) cc0_scratch1 origin _ f
omit [FloatOps F] in
theorem store_sent (f w : (cc0_scratch0 : Ref sig .tc).ty.Contents (Elt F)) :
    ((sentM : Memref sig .tc .vmem S512x16 .f32).access wholeK : View sig .tc _ _ _).write (Elt F) f w Finset.univ = w :=
  Memref.write_access_unit_zero_univ (Elt F) cc0_scratch0 origin _ f w
omit [FloatOps F] in
theorem store_out (f w : (cc0_stg1_0 : Ref sig .tc).ty.Contents (Elt F)) :
    ((outM : Memref sig .tc .vmem S512x16 .f32).access wholeK : View sig .tc _ _ _).write (Elt F) f w Finset.univ = w :=
  Memref.write_access_unit_zero_univ (Elt F) cc0_stg1_0 origin _ f w

/-! ## The transfer -/

variable (K : Dev nD × Fin 3 → ℕ)

/-- The transfer of the sent buffer to the partner: it pays the device's own send cell and the partner's receive cell. -/
theorem run_send (c n : Dev nD) (hn : n = partner c) {hsc : (gotM : Memref sig (Dev.tc n : Thread nD τ).2.kind .vmem S512x16 .f32).view.ref.isScScratch = false}
    {hsrc : (sentM : Memref sig .tc .vmem S512x16 .f32).view.WordExact} {hdst : (gotM : Memref sig .tc .vmem S512x16 .f32).view.WordExact}
    {hsem : DmaTarget.Typed .vmem (.dma inSem) (.remote (Dev.tc n : Thread nD τ) (gotM : Memref sig .tc .vmem S512x16 .f32) (.dma outSem) hsc)}
    {α : Type} {Q : α → sProp 𝕄} {k : PUnit → Prog (TpuEff nD τ sig (Elt F) Λ₀ .tc) α}
    (old : Buf (Elt F) ((gotM : Memref sig .tc .vmem S512x16 .f32).view.loc (partner c : Thread nD τ))) (W : Waits sig Unit) :
    iprop(cellInv inHand (sched m ρ) (K (c, 1)) (outAt c) ∗ cellInv inHand (sched m ρ) (K (partner c, 2)) (inAt (partner c))
        ∗ sentPts c (sends m ρ c) ∗ gotPts (partner c) old ∗ owes (c : Thread nD τ) (tallyAt (inAt (partner c)) () credits) W
        ∗ dutyTok inHand (outAt c) 0 () ∗ reached inHand (outAt c) 0 ∗ dutyTok inHand (inAt (partner c)) 0 () ∗ reached inHand (inAt (partner c)) 0)
      ⊢ iprop(((cred (tallyAt (outAt c) () credits) ∗ owes (c : Thread nD τ) 0 W) -∗ wp frame (wpE (defs₀ (F := F)) noVariants (c : Thread nD τ) none) Set.univ (k ⟨⟩) Q)
          -∗ wp frame (wpE (defs₀ (F := F)) noVariants (c : Thread nD τ) none) Set.univ
              (.op (.enqueueDma sentM (.remote (Dev.tc n : Thread nD τ) gotM (.dma outSem) hsc) (.dma inSem) hsrc hdst hsem) k) Q) := by
  subst hn
  unfold sentPts gotPts
  exact Rounds.wp_send_pointsTo noVariants inHand (sched m ρ) (c : Thread nD τ) none (κ₁ := K (c, 1)) (κ₂ := K (partner c, 2))
    (r₁ := 0) (r₂ := 0) (d₁ := ()) (d₂ := ()) (fd := old) (duty_mem m ρ c 1 ()) (duty_mem m ρ (partner c) 2 ())
    () () credits rfl (amount_out m ρ c ()) (amount_in m ρ (partner c) ()) 0 (by rw [zero_add]) (W := W)
    (by rw [payload_out]; exact BI.Entails.refl _)
    (by rw [payload_in]; unfold gotPts arrived; rw [transfer_writes, partner_partner])

/-! ## The body -/

abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem one_point : cfg0.N = 1 := by decide
def point : Fin cfg0.N := ⟨0, by rw [one_point]; decide⟩
theorem only_point (t : Fin cfg0.N) : t = point := by obtain ⟨t, ht⟩ := t; have := one_point; exact Fin.ext (by simp only [point]; omega)

/-- What the body starts from, the cells' names chosen; -/
def bodyPre (c : Dev nD) : sProp 𝕄 :=
  iprop((hand m ρ K c ∗ cred (tallyAt (barAt c) () 1) ∗ cred (tallyAt (inAt c) () credits) ∗ levAts tracked level ∗ (∃ f, sentPts c f) ∗ ∃ f, gotPts c f)
    ∗ (data m ρ 0 c).owesAt () point.castSucc
    ∗ (∃ d, held c cc0_stg0_0 ((data m ρ 0 c).before (0 : Fin 2) point d))
    ∗ (∃ d, held c cc0_stg1_0 ((data m ρ 0 c).before (1 : Fin 2) point d)))
/-- what it ends in. -/
def bodyPost (c : Dev nD) : sProp 𝕄 :=
  iprop(done m ρ c ∗ (data m ρ 0 c).owesAt () point.succ ∗ held c cc0_stg0_0 (blockOf m ρ c) ∗ held c cc0_stg1_0 (result m ρ c))

set_option maxHeartbeats 1600000 in
/-- The body runs from `bodyPre` to `bodyPost`. -/
theorem body_runs (c : Dev nD) (Kt : PUnit → sProp 𝕄) :
    iprop(bodyPre m ρ K c ∗ (bodyPost m ρ c -∗ Kt ⟨⟩))
      ⊢ wp frame (wpE (defs₀ (F := F)) noVariants c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part5_eq_skeleton, k0_part6_eq_skeleton]; unfold k0_part1_skel k0_part5_skel k0_part6_skel
  simp only [semSignalWord, semWaitWord, Prog.lift, Prog.bind_op, Prog.bind_ret, Prog.pure_eq_ret, wp_deviceId]
  unfold bodyPre hand opened pays
  iintro ⟨⟨⟨⟨⟨#Ibar, #Iout, #Iin, #IbarP, #IinP⟩, ⟨Pbar, Pout, Pin⟩, ⟨#RbarP, #RinP, #Rout, #Rin⟩, TbarP, TinP, Tout⟩, Cbar, Cin, #Hlev, ⟨%f0, Hsent⟩, ⟨%f1, Hgot⟩⟩,
    Ho, ⟨%d0, %g0, %hg0, Hx⟩, ⟨%d1, %g1, %hg1, Hres⟩⟩, Hk⟩
  have hx : g0 = blockOf m ρ c := by rw [hg0]; unfold Dat.before; rw [if_pos (fetch0_0 point)]; rfl
  subst hx
  unfold Dat.owesAt Pipeline.owesWithin
  icases Ho with ⟨%W, %hW, HO⟩
  rw [show (data m ρ 0 c).owed point.castSucc = owedAt c from rfl]
  simp only [dev1_partner c]
  -- the signal hands the partner this device's received buffer
  iapply (Rounds.wp_signal noVariants inHand (sched m ρ) (c : Thread nD τ) none (dst := (partner c : Thread nD τ)) (κ := K (partner c, 0))
      (duty_mem m ρ (partner c) 0 ()) ((amount_bar m ρ (partner c) ()).trans (by decide)) () (tallyAt (inAt (partner c)) () credits) rfl)
    $$ [HO TbarP Hgot]
  · isplitr; · iexact IbarP
    isplitl [HO]; · iexact HO
    isplitl [TbarP]; · iexact TbarP
    isplitl [Hgot]
    · rw [payload_bar, partner_partner]
      isplitl [Hgot]; · iexists f1; iexact Hgot
      iexact Rin
    · iexact RbarP
  iintro HO
  iapply (wp_load noVariants (c : Thread nD τ) none Set.univ (m := blockM) (Finset.subset_univ _)) $$ Hx; iintro Hx
  rw [load_block]
  simp only [part2_eq, part3_eq, Prog.bind_op, Prog.bind_ret]
  rw [part4_eq]
  simp only [Prog.bind_op, Prog.bind_ret]
  rw [falling_eq, rising_eq]
  -- the rising listing is stored in the sent buffer
  ihave Hsent := (Entails.of_eq (sentPts_whole (F := F) c f0)) $$ Hsent
  iapply (wp_load noVariants (c : Thread nD τ) none Set.univ (m := sentM) (Finset.subset_univ _)) $$ Hsent; iintro Hsent
  iapply (wp_store noVariants (c : Thread nD τ) none Set.univ (m := sentM) (r := wholeK) (Mk := Finset.univ) (Finset.subset_univ _)) $$ Hsent; iintro Hsent
  rw [store_sent]
  -- the wait on its own barrier cell: the partner's received buffer comes with it
  iapply (Rounds.wp_wait_rest_token noVariants inHand (sched m ρ) (c : Thread nD τ) none (κ := K (c, 0))
      (wpE_semWait_eq noVariants (c : Thread nD τ) none Set.univ) (Set.mem_univ _) () (O := tallyAt (inAt (partner c)) () credits) (W := W) (R := 0) (m := 0) (T := ∅)
      (by rw [expect_hand m ρ c 0]; exact (congrArg (0 + ·) (by decide)).trans ((Nat.zero_add 1).trans (amount_bar m ρ c ()).symm))) $$ [Cbar HO Pbar]
  · isplitr; · iexact Ibar
    isplitl [Cbar]; · iexact Cbar
    isplitl [HO]; · iexact HO
    isplitr; · iapply (mayWait_bar c); iexact Hlev
    iexact Pbar
  iintro ⟨HO, Pbar, -, Hpay⟩
  ihave Hp := (Entails.of_eq ((rest_hand m ρ c 0).trans (handed_bar m ρ c))) $$ Hpay
  icases Hp with ⟨⟨%old, HgotP⟩, #RinP'⟩
  -- the transfer
  iapply (run_send m ρ K c _ (dev2_partner c) old (insert (SemLoc.reg barSem, ()) W)) $$ [Hsent HgotP HO Tout TinP]
  · isplitr; · iexact Iout
    isplitr; · iexact IinP
    isplitl [Hsent]; · (rw [sentPts_whole]; iexact Hsent)
    isplitl [HgotP]; · iexact HgotP
    isplitl [HO]; · iexact HO
    isplitl [Tout]; · iexact Tout
    isplitr; · iexact Rout
    isplitl [TinP]; · iexact TinP
    iexact RinP
  iintro ⟨Cout, HO⟩
  -- the two waits: the sent buffer back, the received one filled
  iapply (Rounds.wp_wait_rest_token noVariants inHand (sched m ρ) (c : Thread nD τ) none (κ := K (c, 1))
      (wpE_waitDma2_eq noVariants (c : Thread nD τ) none Set.univ) (Set.mem_univ _) () (O := 0) (W := insert (SemLoc.reg barSem, ()) W) (R := 0) (m := 0) (T := ∅)
      (by rw [Nat.zero_add, expect_hand m ρ c 1]; exact (amount_out m ρ c ()).symm)) $$ [Cout HO Pout]
  · isplitr; · iexact Iout
    isplitl [Cout]; · iexact Cout
    isplitl [HO]; · iexact HO
    isplitr; · rw [MayWait_zero]; iempintro
    iexact Pout
  iintro ⟨HO, Pout, -, Hpay⟩
  ihave Hsent := (Entails.of_eq ((rest_hand m ρ c 1).trans (handed_out m ρ c))) $$ Hpay
  iapply (Rounds.wp_wait_rest_token noVariants inHand (sched m ρ) (c : Thread nD τ) none (κ := K (c, 2))
      (wpE_waitDma2_eq noVariants (c : Thread nD τ) none Set.univ) (Set.mem_univ _) () (O := 0)
      (W := insert (SemLoc.dma outSem, ()) (insert (SemLoc.reg barSem, ()) W)) (R := 0) (m := 0) (T := ∅)
      (by rw [Nat.zero_add, expect_hand m ρ c 2]; exact (amount_in m ρ c ()).symm)) $$ [Cin HO Pin]
  · isplitr; · iexact Iin
    isplitl [Cin]; · iexact Cin
    isplitl [HO]; · iexact HO
    isplitr; · rw [MayWait_zero]; iempintro
    iexact Pin
  iintro ⟨HO, Pin, -, Hpay⟩
  ihave Hgot := (Entails.of_eq ((rest_hand m ρ c 2).trans ((handed_in m ρ c).trans (gotPts_whole c _)))) $$ Hpay
  -- the three cells close at zero
  imod (Rounds.cell_close inHand (sched m ρ) (Set.mem_univ (K (c, 0))) (fun h => h) (R := 0 + 1) (duties_after m ρ (barAt c))) $$ [Pbar] with Zbar
  · isplitr; · iexact Ibar
    iexact Pbar
  imod (Rounds.cell_close inHand (sched m ρ) (Set.mem_univ (K (c, 1))) (fun h => h) (R := 0 + 1) (duties_after m ρ (outAt c))) $$ [Pout] with Zout
  · isplitr; · iexact Iout
    iexact Pout
  imod (Rounds.cell_close inHand (sched m ρ) (Set.mem_univ (K (c, 2))) (fun h => h) (R := 0 + 1) (duties_after m ρ (inAt c))) $$ [Pin] with Zin
  · isplitr; · iexact Iin
    iexact Pin
  -- the merge is stored
  iapply (wp_load noVariants (c : Thread nD τ) none Set.univ (m := gotM) (Finset.subset_univ _)) $$ Hgot; iintro Hgot
  rw [load_got]
  iapply (wp_load noVariants (c : Thread nD τ) none Set.univ (m := outM) (Finset.subset_univ _)) $$ Hres; iintro Hres
  iapply (wp_store noVariants (c : Thread nD τ) none Set.univ (m := outM) (r := wholeK) (Mk := Finset.univ) (Finset.subset_univ _)) $$ Hres; iintro Hres
  rw [store_out, wp_ret]; imodintro
  iapply Hk
  unfold bodyPost done Dat.owesAt Pipeline.owesWithin
  rw [show (data m ρ 0 c).owed point.succ = 0 from rfl]
  isplitl [Hsent Hgot Zbar Zout Zin]
  · isplitl [Hsent Hgot]
    · isplitl [Hsent]; · iexact Hsent
      rw [gotPts_whole]; iexact Hgot
    isplitl [Zout]; · iexact Zout
    isplitl [Zin] <;> iassumption
  isplitl [HO]
  · iexists (insert (SemLoc.dma inSem, ()) (insert (SemLoc.dma outSem, ()) (insert (SemLoc.reg barSem, ()) W)))
    isplitr; · ipureintro; exact fun _ _ => Or.inl trivial
    iexact HO
  isplitl [Hx]
  · iexists _; isplitr; · (ipureintro; rfl)
    iexact Hx
  iexists _; isplitr; · (ipureintro; rfl)
  iexact Hres

end Cert.TopK

end
-- ==== Proof.Run.lean ====
/- The launch: the handshake's cells minted, opened on every device and dealt to the pairs; then one run of the kernel,
   over any float values: every device's result array ends holding `result`, its argument what it held, all counters zero. -/
module

public import proofs.«01_k».proof.Proof.Body
public import Idealize.ShloMosaic.Lib.Pipeline.CollectiveSegs

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ) (ρ : Dev nD → PrngReg)

/-! ## The body, as the launch asks for it -/

omit [FloatOps F] in
theorem owns_held (c : Dev nD) (b : Ref sig .tc) (X : b.ty.Contents (Elt F)) :
    (owns (Ix := Unit) (Name := ℕ) (U := Ghost) (Lvl := ℕ) (c : Thread nD τ) (Memref.whole b) fullShare X : sProp 𝕄) = held c b X := by
  unfold owns; simp only [Memref.view_whole, View.read_whole, View.set_whole]

def bodyStart (c : Dev nD) : sProp 𝕄 :=
  iprop(before m ρ c ∗ (data m ρ 0 c).owesAt () point.castSucc
    ∗ (∃ d, held c cc0_stg0_0 ((data m ρ 0 c).before (0 : Fin 2) point d))
    ∗ (∃ d, held c cc0_stg1_0 ((data m ρ 0 c).before (1 : Fin 2) point d)))

set_option maxRecDepth 4000 in
theorem body_obligation (c : Dev nD) : BodyObligation (data (F := F) m ρ 0 c) (defs₀ (F := F)) noVariants () Set.univ := fun t => by
  rw [only_point t, bigSep_W0, bigSep_W0]
  simp only [owns_held]
  show bodyStart m ρ c ⊢ wp frame (wpE (defs₀ (F := F)) noVariants c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyStart before given
  iintro ⟨⟨⟨⟨%K, Hhand⟩, H1, H2, H3⟩, Hsent, Hgot⟩, Ho, Hx, Hout⟩
  iapply (body_runs m ρ K c fun _ => bodyPost m ρ c)
  unfold bodyPre
  isplitr []
  · isplitl [Hhand H1 H2 H3 Hsent Hgot]
    · isplitl [Hhand]; · iexact Hhand
      isplitl [H1]; · iexact H1
      isplitl [H2]; · iexact H2
      isplitl [H3]; · iexact H3
      isplitl [Hsent] <;> iassumption
    isplitl [Ho]; · iexact Ho
    isplitl [Hx] <;> iassumption
  · iintro H; iexact H

/-! ## The launch element -/

theorem scopedFacts : Pipeline.OwnSemFacts cfg0.spec scopedSem := by decide

theorem whole_share (c : Dev nD) (w : Fin cfg0.W) : (data m ρ 0 c).share w = fullShare := by unfold Dat.share; split <;> rfl

theorem handCell_injective : Function.Injective (handCell : Dev nD × Fin 3 → GSem nD τ sig) := by
  rintro ⟨c, k⟩ ⟨c', k'⟩ h
  have hc : c = c' := congrArg (fun g : GSem nD τ sig => g.1.1) h
  have hs : handSem k = handSem k' := congrArg Prod.snd h
  have hk : k = k' := by fin_cases k <;> fin_cases k' <;> first | rfl | exact absurd hs (by decide)
  rw [hc, hk]

def allCells : Finset (GSem nD τ sig) := Finset.univ.map ⟨handCell, handCell_injective⟩
def allTokens : Finset (GSem nD τ sig × ℕ × Unit) :=
  Finset.univ.map ⟨fun ck : Dev nD × Fin 3 => (handCell ck, 0, ()), fun a b h => handCell_injective (congrArg Prod.fst h)⟩

def minted : Ghost := (initOf (Pipeline.cells cfgs cellOf_inj) (Pipeline.launchToks cfgs cellOf_inj), initOf allCells allTokens)

/-- The tokens of device `c`'s own three cells. -/
def tokens (c : Dev nD) : sProp 𝕄 := iprop(dutyTok inHand (barAt c) 0 () ∗ dutyTok inHand (outAt c) 0 () ∗ dutyTok inHand (inAt c) 0 ())

/-- What the launch element gives device `c`; -/
def dealt (c : Dev nD) : sProp 𝕄 :=
  iprop((bigSep Finset.univ fun k : Fin 3 => roundState inHand (sched m ρ) (handCell (c, k)) 0)
    ∗ (bigSep Finset.univ fun k : Fin 3 => iprop(atPos inHand (handCell (c, k)) 0 ∅ 0 ∗ reached inHand (handCell (c, k)) 0)) ∗ tokens c)
/-- what the device has once the cells are opened and the tokens exchanged. -/
def ready (c : Dev nD) : sProp 𝕄 := iprop(∃ K, hand m ρ K c)

omit [FloatOps F] in
theorem sep_three (Φ : Fin 3 → sProp 𝕄) : bigSep Finset.univ Φ = iprop(Φ 0 ∗ Φ 1 ∗ Φ 2) := bigSep_univ_eq_bigSepL [0, 1, 2] (by decide) (by decide) Φ

theorem mint : BI.own (inHand (initOf allCells allTokens)) ⊢ (|==> bigSep Finset.univ (dealt m ρ) : sProp 𝕄) := by
  have onCells (Φ : GSem nD τ sig → sProp 𝕄) : bigSep allCells Φ = bigSep Finset.univ fun c : Dev nD => bigSep Finset.univ fun k : Fin 3 => Φ (handCell (c, k)) := by
    unfold allCells; rw [bigSep_map, bigSep_univ_prod]; rfl
  have onTokens : bigSep allTokens (fun x => (dutyTok inHand x.1 x.2.1 x.2.2 : sProp 𝕄)) = bigSep Finset.univ fun c : Dev nD => tokens c := by
    unfold allTokens; rw [bigSep_map, bigSep_univ_prod]
    exact bigSep_congr fun c _ => by unfold tokens; rw [sep_three]; rfl
  iintro H
  imod (Rounds.fund inHand (sched m ρ) allCells allTokens) $$ H with ⟨Hst, Hr, Hat, Htok⟩
  imodintro
  ihave Hst := (Entails.of_eq (onCells fun g => roundState inHand (sched m ρ) g 0)) $$ Hst
  ihave Hat := (Entails.of_eq (onCells fun g => atPos inHand g 0 ∅ 0)) $$ Hat
  ihave Hr := (Entails.of_eq (onCells fun g => reached inHand g 0)) $$ Hr
  ihave Htok := (Entails.of_eq onTokens) $$ Htok
  unfold dealt; simp only [bigSep_sep']
  isplitl [Hst]; · iexact Hst
  isplitl [Hat Hr]
  · isplitl [Hat] <;> iassumption
  iexact Htok

omit [FloatOps F] in
theorem scopedSems_eq (c : Dev nD) : (Pipeline.ownSems0 (Ix := Unit) (Name := ℕ) (U := Ghost) (Lvl := ℕ) (Val := Elt F) (τ := τ) scopedSem c : sProp 𝕄)
    = iprop(semVal (outAt c) 0 ∗ semVal (inAt c) 0) := by
  rw [Pipeline.ownSems0_eq_of_list c scopedSem [0, 1] (by decide) (by decide)]; rfl
omit [FloatOps F] in
theorem barrierSem_eq (c : Dev nD) : (unscopedSems0 c : sProp 𝕄) = semVal (barAt c) 0 := by
  unfold unscopedSems0; rw [bigSep_eq_bigSepL_of_eq [SemLoc.reg barSem] (by decide) (by decide)]; rfl

/-- A device's three cells opened: their counters at zero go into their records. -/
theorem open_cells (c : Dev nD) :
    iprop(Pipeline.ownSems0 (Ix := Unit) (Name := ℕ) (U := Ghost) (Lvl := ℕ) (Val := Elt F) (τ := τ) scopedSem c ∗ unscopedSems0 c ∗ dealt m ρ c)
      ⊢ |={Set.univ}=> iprop((bigSep Finset.univ fun k => iprop(∃ κ : ℕ, cellInv inHand (sched m ρ) κ (handCell (c, k))))
          ∗ (bigSep Finset.univ fun k => iprop(atPos inHand (handCell (c, k)) 0 ∅ 0 ∗ reached inHand (handCell (c, k)) 0)) ∗ tokens c) := by
  have alloc : iprop((bigSep Finset.univ fun k : Fin 3 => semVal (handCell (c, k)) 0) ∗ bigSep Finset.univ fun k : Fin 3 => roundState inHand (sched m ρ) (handCell (c, k)) 0)
      ⊢ (|={Set.univ}=> bigSep Finset.univ fun k => iprop(∃ κ : ℕ, cellInv inHand (sched m ρ) κ (handCell (c, k))) : sProp 𝕄) := by
    rw [← bigSep_sep']
    exact (bigSep_mono fun k _ => (Rounds.body_intro inHand (sched m ρ) (handCell (c, k))).trans inv_alloc).trans (bigSep_fupd _ _)
  unfold dealt
  rw [scopedSems_eq, barrierSem_eq]
  iintro ⟨⟨Hout, Hin⟩, Hbar, Hst, Hat, Htok⟩
  imod alloc $$ [Hout Hin Hbar Hst] with Hinv
  · isplitr [Hst]
    · rw [sep_three]
      isplitl [Hbar]; · iexact Hbar
      isplitl [Hout] <;> iassumption
    iexact Hst
  imodintro
  isplitl [Hinv]; · iexact Hinv
  isplitl [Hat] <;> iassumption

/-- Every cell's record and starting round, known to all. -/
def known (K : Dev nD × Fin 3 → ℕ) : sProp 𝕄 :=
  iprop((bigSep Finset.univ fun ck : Dev nD × Fin 3 => cellInv inHand (sched m ρ) (K ck) (handCell ck))
    ∗ bigSep Finset.univ fun ck : Dev nD × Fin 3 => reached inHand (handCell ck) 0)

instance known_persistent (K : Dev nD × Fin 3 → ℕ) : BI.Persistent (known m ρ K) := by unfold known; infer_instance

theorem known_inv (K : Dev nD × Fin 3 → ℕ) (ck : Dev nD × Fin 3) :
    (bigSep Finset.univ fun ck : Dev nD × Fin 3 => (cellInv inHand (sched m ρ) (K ck) (handCell ck) : sProp 𝕄)) ⊢ cellInv inHand (sched m ρ) (K ck) (handCell ck) :=
  bigSep_elim (Finset.mem_univ ck)
omit [FloatOps F] in
theorem known_reached (ck : Dev nD × Fin 3) :
    (bigSep Finset.univ fun ck : Dev nD × Fin 3 => (reached inHand (handCell ck) 0 : sProp 𝕄)) ⊢ reached inHand (handCell ck) 0 :=
  bigSep_elim (Finset.mem_univ ck)

/-- What only device `c` holds. -/
def alone (c : Dev nD) : sProp 𝕄 :=
  iprop((atPos inHand (barAt c) 0 ∅ 0 ∗ atPos inHand (outAt c) 0 ∅ 0 ∗ atPos inHand (inAt c) 0 ∅ 0) ∗ pays c)

theorem ready_intro (K : Dev nD × Fin 3 → ℕ) (c : Dev nD) : iprop(known m ρ K ∗ alone c) ⊢ ready m ρ c := by
  unfold known alone ready hand opened
  iintro ⟨⟨#HI, #HR⟩, Hat, Ht⟩
  iexists K
  isplitr
  · isplitr; · iapply (known_inv m ρ K (c, 0)); iexact HI
    isplitr; · iapply (known_inv m ρ K (c, 1)); iexact HI
    isplitr; · iapply (known_inv m ρ K (c, 2)); iexact HI
    isplitr; · iapply (known_inv m ρ K (partner c, 0)); iexact HI
    iapply (known_inv m ρ K (partner c, 2)); iexact HI
  isplitl [Hat]; · iexact Hat
  isplitr
  · isplitr; · iapply (known_reached (F := F) (partner c, 0)); iexact HR
    isplitr; · iapply (known_reached (F := F) (partner c, 2)); iexact HR
    isplitr; · iapply (known_reached (F := F) (c, 1)); iexact HR
    iapply (known_reached (F := F) (c, 2)); iexact HR
  iexact Ht

omit [FloatOps F] in
/-- The barrier and receive tokens exchanged within each pair. -/
theorem tokens_exchanged : (bigSep Finset.univ fun c : Dev nD => (tokens c : sProp 𝕄)) ⊢ bigSep Finset.univ fun c : Dev nD => pays c := by
  unfold tokens pays
  rw [bigSep_sep', bigSep_sep', bigSep_sep', bigSep_sep', bigSep_univ_equiv exchange (fun c : Dev nD => (dutyTok inHand (barAt c) 0 () : sProp 𝕄)),
    bigSep_univ_equiv exchange (fun c : Dev nD => (dutyTok inHand (inAt c) 0 () : sProp 𝕄))]
  iintro ⟨HB, HO, HI⟩
  isplitl [HB]; · iexact HB
  isplitl [HI]; · iexact HI
  iexact HO

omit [FloatOps F] in
theorem sep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal :
    (bigSep Finset.univ fun c : Dev nD => iprop((bigSep Finset.univ fun k => iprop(∃ κ : ℕ, cellInv inHand (sched m ρ) κ (handCell (c, k))))
          ∗ (bigSep Finset.univ fun k => iprop(atPos inHand (handCell (c, k)) 0 ∅ 0 ∗ reached inHand (handCell (c, k)) 0)) ∗ tokens c) : sProp 𝕄)
      ⊢ bigSep Finset.univ (ready m ρ) := by
  rw [bigSep_sep', bigSep_sep', ← bigSep_univ_prod (fun ck : Dev nD × Fin 3 => iprop(∃ κ : ℕ, cellInv inHand (sched m ρ) κ (handCell ck))),
    bigSep_congr (s := Finset.univ) (fun (c : Dev nD) _ => bigSep_sep' Finset.univ (fun k : Fin 3 => (atPos inHand (handCell (c, k)) 0 ∅ 0 : sProp 𝕄)) (fun k => reached inHand (handCell (c, k)) 0)),
    bigSep_sep', ← bigSep_univ_prod (fun ck : Dev nD × Fin 3 => (reached inHand (handCell ck) 0 : sProp 𝕄))]
  iintro ⟨HI, ⟨Hat, #HR⟩, Htok⟩
  ihave HK := (BI.bigSep_exists_pi Finset.univ (fun (ck : Dev nD × Fin 3) (κ : ℕ) => (cellInv inHand (sched m ρ) κ (handCell ck) : sProp 𝕄))) $$ HI
  icases HK with ⟨%K, #HI⟩
  ihave Hpays := (tokens_exchanged (F := F)) $$ Htok
  iapply (sep_with (R := known m ρ K) fun c _ => ready_intro m ρ K c)
  isplitr
  · unfold known; isplitl; · iexact HI
    iexact HR
  · iapply ((Entails.of_eq (bigSep_sep' Finset.univ (fun c : Dev nD => bigSep Finset.univ fun k : Fin 3 => (atPos inHand (handCell (c, k)) 0 ∅ 0 : sProp 𝕄)) pays).symm).trans
      (bigSep_mono fun c _ => show _ ⊢ alone c from Entails.of_eq (by unfold alone; rw [sep_three])))
    isplitl [Hat] <;> iassumption

theorem set_up : (bigSep Finset.univ fun c => iprop(Pipeline.ownSems0 (Ix := Unit) (Name := ℕ) (U := Ghost) (Lvl := ℕ) (Val := Elt F) (τ := τ) scopedSem c ∗ unscopedSems0 c ∗ dealt m ρ c) : sProp 𝕄)
    ⊢ |={Set.univ}=> bigSep Finset.univ (ready m ρ) :=
  ((bigSep_mono fun c _ => open_cells m ρ c).trans (bigSep_fupd _ _)).trans (BI.fupd_mono (deal m ρ))

/-! ## The launch credit -/

theorem cell_iff {a b : Dev nD} {s : SemLoc sig} : Iff ((((a : Thread nD τ), s) : GSem nD τ sig) = ((b : Thread nD τ), s)) (a = b) :=
  ⟨fun h => congrArg (fun g : GSem nD τ sig => g.1.1) h, fun h => h ▸ rfl⟩
theorem partner_iff {c d : Dev nD} : Iff (c = partner d) (d = partner c) :=
  ⟨fun h => by rw [h, partner_partner], fun h => by rw [h, partner_partner]⟩

theorem owed_to (s : SemLoc sig) (n : ℕ) (c d : Dev nD) :
    (tallyAt (((partner d : Dev nD) : Thread nD τ), s) () n : CellTallies nD τ sig Unit) ((c : Thread nD τ), s) () = if d = partner c then n else 0 := by
  rw [tallyAt_apply]
  by_cases h : d = partner c
  · rw [if_pos h, if_pos ⟨cell_iff.mpr (partner_iff.mpr h), rfl⟩]
  · rw [if_neg h, if_neg fun h' => h (partner_iff.mp (cell_iff.mp h'.1))]

theorem owed_bar (c d : Dev nD) : owedAt d (barAt c) () = if d = partner c then 1 else 0 := by
  unfold owedAt
  rw [Pi.add_apply, Finsupp.add_apply, tallyAt_ne_cell (fun h => in_ne_bar (congrArg Prod.snd h).symm), Finsupp.zero_apply, Nat.zero_add]
  exact owed_to _ 1 c d
theorem owed_in (c d : Dev nD) : owedAt d (inAt c) () = if d = partner c then credits else 0 := by
  unfold owedAt
  rw [Pi.add_apply, Finsupp.add_apply, tallyAt_ne_cell (show inAt c ≠ barAt (partner d) from fun h => in_ne_bar (congrArg Prod.snd h)), Finsupp.zero_apply, Nat.add_zero]
  exact owed_to _ credits c d

theorem credit_at (g : GSem nD τ sig) (n : ℕ) (e : Dev nD) (h : ∀ d, owedAt d g () = if d = e then n else 0) :
    tallyOn g (launchCredit (Pipeline.owing owedAt) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => n,
    if_pos (Finset.mem_univ _)]

omit [FloatOps F] in
theorem credit (c : Dev nD) : (Pipeline.launchCred owedAt c : sProp 𝕄) ⊢ iprop(cred (tallyAt (barAt c) () 1) ∗ cred (tallyAt (inAt c) () credits)) := by
  unfold Pipeline.launchCred
  rw [bigSep_univ_at _ (SemLoc.reg barSem), credit_at _ 1 _ (owed_bar c)]
  refine sep_mono_right ?_
  rw [← credit_at _ credits _ (owed_in c)]
  exact bigSep_elim (Finset.mem_erase.mpr ⟨in_ne_bar, Finset.mem_univ _⟩)

/-! ## The start and the end of a device's region -/

theorem given_intro (c : Dev nD) :
    iprop(Pipeline.unscopedRestP Pipeline.Prefetch.none cfg0.spec c (fun b => m ((c : Thread nD τ).loc b)) ∗ levAts tracked level
        ∗ Pipeline.launchCred owedAt c ∗ prngReg c (ρ c) ∗ ready m ρ c)
      ⊢ |={Set.univ}=> iprop(given m ρ c ∗ emp) := by
  iintro ⟨-, Hlev, Hcr, -, HG⟩
  ihave Hc := (credit (F := F) c) $$ Hcr
  icases Hc with ⟨H1, HN⟩
  imodintro
  unfold given ready
  isplitl
  · isplitl [HG]; · iexact HG
    isplitl [H1]; · iexact H1
    isplitl [HN] <;> iassumption
  · iempintro

theorem before_intro (c : Dev nD) :
    iprop(given m ρ c ∗ Pipeline.prefHeld Pipeline.Prefetch.none c (fun _ => fullShare.right) (fun k => k.elim0) ∗ Pipeline.scopedRest cfg0.spec c)
      ⊢ (data m ρ 0 c).Φ 0 := by
  rw [show (data m ρ 0 c).Φ 0 = before m ρ c from rfl, scopedRest0_eq]
  unfold before
  iintro ⟨Hs, -, ⟨%f, Hsent⟩, ⟨%g, Hgot⟩⟩
  isplitl [Hs]; · iexact Hs
  isplitl [Hsent]
  · iexists f; rw [sentPts_whole]; iexact Hsent
  · iexists g; rw [gotPts_whole]; iexact Hgot

theorem done_exit (c : Dev nD) :
    (data m ρ 0 c).Φ (Fin.last cfg0.N) ⊢ iprop(unscopedSems0 c ∗ Pipeline.ownSems0 scopedSem c ∗ Pipeline.scopedRest cfg0.spec c) := by
  rw [show (data m ρ 0 c).Φ (Fin.last cfg0.N) = done m ρ c from rfl, scopedRest0_eq, scopedSems_eq, barrierSem_eq]
  unfold done
  iintro ⟨⟨Hsent, Hgot⟩, Hout, Hin, Hbar⟩
  isplitl [Hbar]; · iexact Hbar
  isplitl [Hout Hin]
  · isplitl [Hout] <;> iassumption
  isplitl [Hsent]
  · iexists (sends m ρ c); rw [← sentPts_whole]; iexact Hsent
  · iexists (arrived m ρ c); rw [← gotPts_whole]; iexact Hgot

theorem waits (c : Dev nD) : (levAts tracked level : sProp 𝕄) ⊢ Pipeline.cellsWaits cfgs (data m ρ) () 0 c :=
  Pipeline.cellsWaits_intro cfgs (data m ρ) () 0 c fun w s t =>
    mayWait_low c _ (by fin_cases w <;> fin_cases s <;> decide) _ (by
      rcases t with ⟨_ | _, ht⟩
      · exact Or.inl rfl
      · exact Or.inr rfl)

/-! ## The run -/

def arrays (r : PUnit × MemSt nD τ sig (Elt F)) : Prop :=
  ∀ (c : Dev nD) (w : Fin cfg0.W), r.2.mem ((cfg0.win w).arr.view.loc (c : Thread nD τ)) = (data m ρ 0 c).arrAt w cfg0.N

set_option maxRecDepth 8000 in
/-- From any memory with zero counters every weakly fair execution of `main` ends, each window's array as the pipeline's
    data says and every counter zero. -/
theorem run_arrays : θ_run defs (onTc (τ := τ) (main (F := F))) (launched m ρ) (fun r => arrays m ρ r ∧ r.2.sem = fun _ => 0) :=
  Pipeline.θ_run_region_owing_glob_pf (fun p => (cfgs p).toPCfg) (fun p => (cfgs p).toPCfg_adm) (data m ρ) () cellOf_inj (0 : Fin 1)
    winFacts0.to₀ scopedFacts (Pipeline.PreFacts.none _) inPipe defs₀ noVariants m ρ main
    (hmain := fun _ => rfl)
    (hbody := body_obligation m ρ) (hne := fun w => by fin_cases w <;> exact Nat.succ_pos _) (harr := arr_whole0) (hstage := stage_whole0) (hshare := whole_share m ρ)
    (hdistinct := winFacts0.arr_inj)
    (O₀ := owedAt) (howed₀ := fun _ => rfl) (howedN := fun _ => rfl)
    (L := tracked) (lv := level) (hL := tracked_other) (hwaits := waits m ρ)
    (G := dealt m ρ) (G' := ready m ρ) (u₀ := minted)
    (hu₀ := by
      unfold minted
      iintro Hu
      ihave H := (ownU_pair _ _) $$ Hu
      icases H with ⟨HP, HX⟩
      imod (mint m ρ) $$ HX with HG
      imodintro
      isplitl [HP] <;> iassumption)
    (hglob := set_up m ρ)
    (hA := fun _ _ => rfl) (hpf := fun _ k => k.elim0)
    (X := given m ρ) (Y := fun c => unscopedSems0 c) (Z := fun _ => iprop(emp))
    (hX := given_intro m ρ) (hin := before_intro m ρ) (hout := done_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array keeps what it held; -/
theorem argument_kept (c : Dev nD) : (data m ρ 0 c).arrAt (0 : Fin 2) cfg0.N = m ((c : Thread nD τ).loc main_arg0) :=
  (data (F := F) m ρ 0 c).arrAt_in (0 : Fin 2) rfl _

/-- the result's holds `result`: its window is the whole array, written back once. -/
theorem result_written (c : Dev nD) : (data m ρ 0 c).arrAt (1 : Fin 2) cfg0.N = result m ρ c := by
  have written : (win0_1.blk (0 : Fin 1)).view.read (Elt F) ((data m ρ 0 c).arrAt (1 : Fin 2) cfg0.N) = result m ρ c := by
    rw [show cfg0.N = ((0 : Fin 1) : Fin cfg0.N).val + 1 from rfl, (data m ρ 0 c).arrAt_succ (1 : Fin 2) (0 : Fin 1)]
    rw [show (cfg0.win (1 : Fin 2)).flush (0 : Fin 1) = true from flush0_1 _, if_pos rfl]
    exact View.read_write_univ _ _
  exact (Memref.read_access_unit_zero (Elt F) main_v1 (off := fun a => (win0_1.index (0 : Fin 1)) a * main_v1.ty.shape.size a)
    (funext fun a => by fin_cases a <;> decide) (fun a => by fin_cases a <;> decide) _).symm.trans written

/-- The argument's window is the whole array too. -/
theorem blockOf_eq (c : Dev nD) : blockOf m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _

/-- From any memory with zero counters every weakly fair execution of `main` ends; then each device's result array holds
    `result`, its argument array what it held, and every counter is zero. -/
theorem run_main : θ_run defs (onTc (τ := τ) (main (F := F))) (launched m ρ)
    (fun r => (∀ c : Dev nD, r.2.mem ((c : Thread nD τ).loc main_v1) = result m ρ c ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (result_written m ρ c), (h.1 c (0 : Fin 2)).trans (argument_kept m ρ c)⟩, h.2⟩) (run_arrays m ρ)

end Cert.TopK

end
-- ==== Proof.Ranks.lean ====
/- Listings of the greatest entries of a family, told by counting: a listing `t` of a family `f` is right when an entry
   `t i` is at least `x` exactly when more than `i` entries of `f` are. Comparisons against one threshold turn maxima and
   minima into disjunctions and conjunctions, and families laid side by side into sums of counts. -/
module

public import Mathlib.Data.EReal.Basic
public import Mathlib.Algebra.BigOperators.Group.Finset.Basic
public import Mathlib.Algebra.BigOperators.Fin
public import Mathlib.Data.Fintype.BigOperators
public import Mathlib.Data.Fintype.Sum
public import Mathlib.Algebra.Order.BigOperators.Group.Finset

@[expose] public section

noncomputable section

namespace Cert.TopK

open scoped BigOperators

/-- One if `x ≤ a`, else zero. -/
def one (x a : EReal) : ℕ := if x ≤ a then 1 else 0

/-- How many entries of `f` are at least `x`. -/
def above {ι : Type} [Fintype ι] (f : ι → EReal) (x : EReal) : ℕ := ∑ j, one x (f j)

/-- `t` lists the greatest entries of `f`, the greatest first. -/
def Lists {ι : Type} [Fintype ι] {k : ℕ} (f : ι → EReal) (t : Fin k → EReal) : Prop :=
  ∀ i x, x ≠ ⊥ → (x ≤ t i ↔ i.val < above f x)

/-- Two values not distinguished by any threshold are equal. -/
theorem eq_of_thresholds {a b : EReal} (h : ∀ x, x ≠ ⊥ → (x ≤ a ↔ x ≤ b)) : a = b := by
  refine le_antisymm ?_ ?_
  · by_cases ha : a = ⊥
    · simp [ha]
    · exact (h a ha).mp le_rfl
  · by_cases hb : b = ⊥
    · simp [hb]
    · exact (h b hb).mpr le_rfl

/-- Families with the same counts have the same listing. -/
theorem Lists.eq {ι κ : Type} [Fintype ι] [Fintype κ] {k : ℕ} {f : ι → EReal} {g : κ → EReal} {t u : Fin k → EReal}
    (hfg : ∀ x, above f x = above g x) (ht : Lists f t) (hu : Lists g u) : t = u := by
  funext i
  exact eq_of_thresholds fun x hx => by rw [ht i x hx, hu i x hx, hfg]

/-- A listing falls. -/
theorem Lists.le {ι : Type} [Fintype ι] {k : ℕ} {f : ι → EReal} {t : Fin k → EReal} (h : Lists f t) {i j : Fin k}
    (hij : i ≤ j) : t j ≤ t i := by
  by_cases hj : t j = ⊥
  · simp [hj]
  · exact (h i _ hj).mpr (lt_of_le_of_lt hij ((h j _ hj).mp le_rfl))

theorem one_le_one (x a : EReal) : one x a ≤ 1 := by unfold one; split <;> omega

theorem one_of_le {x a : EReal} (h : x ≤ a) : one x a = 1 := if_pos h

theorem one_of_not_le {x a : EReal} (h : ¬x ≤ a) : one x a = 0 := if_neg h

theorem one_bot {x : EReal} (h : x ≠ ⊥) : one x ⊥ = 0 := if_neg (by rwa [le_bot_iff])

/-- Renaming the entries keeps the counts. -/
theorem above_equiv {ι κ : Type} [Fintype ι] [Fintype κ] (e : ι ≃ κ) (f : κ → EReal) (x : EReal) :
    above (fun i => f (e i)) x = above f x := Equiv.sum_comp e fun j => one x (f j)

/-- Families side by side: the counts add up. -/
theorem above_sum {ι κ : Type} [Fintype ι] [Fintype κ] (f : ι → EReal) (g : κ → EReal) (x : EReal) :
    above (Sum.elim f g) x = above f x + above g x := Fintype.sum_sum_type _

/-- A count is positive exactly when some entry reaches the threshold. -/
theorem above_pos {ι : Type} [Fintype ι] (f : ι → EReal) (x : EReal) : 0 < above f x ↔ ∃ j, x ≤ f j := by
  unfold above
  rw [Finset.sum_pos_iff]
  refine ⟨fun ⟨j, _, h⟩ => ⟨j, ?_⟩, fun ⟨j, h⟩ => ⟨j, Finset.mem_univ _, by rw [one_of_le h]; exact Nat.one_pos⟩⟩
  by_contra hn
  rw [one_of_not_le hn] at h
  exact absurd h (lt_irrefl _)

/-- The running two greatest of a sequence, as the chunk pass keeps them. -/
def run1 (v : ℕ → EReal) : ℕ → EReal
  | 0 => ⊥
  | n + 1 => max (run1 v n) (v n)

/-- The second of them. -/
def run2 (v : ℕ → EReal) : ℕ → EReal
  | 0 => ⊥
  | n + 1 => max (run2 v n) (min (run1 v n) (v n))

/-- How many of the first `n` values of a sequence are at least `x`. -/
def upTo (v : ℕ → EReal) (n : ℕ) (x : EReal) : ℕ := ∑ k ∈ Finset.range n, one x (v k)

theorem upTo_succ (v : ℕ → EReal) (n : ℕ) (x : EReal) : upTo v (n + 1) x = upTo v n x + one x (v n) :=
  Finset.sum_range_succ _ _

/-- The running greatest reaches the threshold once one value has. -/
theorem le_run1 (v : ℕ → EReal) (n : ℕ) {x : EReal} (hx : x ≠ ⊥) : x ≤ run1 v n ↔ 1 ≤ upTo v n x := by
  induction n with
  | zero => simp [run1, upTo, hx]
  | succ n ih =>
    rw [run1, upTo_succ, le_max_iff, ih]
    by_cases h : x ≤ v n
    · rw [one_of_le h]; simp [h]
    · rw [one_of_not_le h]; simp [h]

/-- The running second greatest reaches the threshold once two values have. -/
theorem le_run2 (v : ℕ → EReal) (n : ℕ) {x : EReal} (hx : x ≠ ⊥) : x ≤ run2 v n ↔ 2 ≤ upTo v n x := by
  induction n with
  | zero => simp [run2, upTo, hx]
  | succ n ih =>
    rw [run2, upTo_succ, le_max_iff, le_min_iff, ih, le_run1 v n hx]
    by_cases h : x ≤ v n
    · rw [one_of_le h]; simp only [h, and_true]; omega
    · rw [one_of_not_le h]; simp [h]

end Cert.TopK
-- ==== Proof.Merge.lean ====
/- The merge of two listings of sixteen: the greater of each falling entry with the rising entry beside it, then four
   stages that order the places 8, 4, 2 and 1 apart, leaves the listing of both families together. -/
module

public import proofs.«01_k».proof.Proof.Ranks

@[expose] public section

noncomputable section

namespace Cert.TopK

/-- One stage on sixteen places: a place whose bit `s` is clear takes the greater of its own value and that `s` places
    on, a place whose bit is set the lesser of its own and that `s` places back. `up` and `dn` are the greater and the
    lesser. -/
@[reducible] def stage {α : Type} (up dn : α → α → α) (s : Fin 16) (x : Fin 16 → α) (j : Fin 16) : α :=
  if Nat.land j.val s.val = 0 then up (x j) (x (j + s)) else dn (x j) (x (j - s))

/-- The whole merge: the pairs, then the four stages. -/
@[reducible] def mergeBy {α : Type} (up dn : α → α → α) (a b : Fin 16 → α) : Fin 16 → α :=
  stage up dn 1 (stage up dn 2 (stage up dn 4 (stage up dn 8 fun j => up (a j) (b j))))

/-- A stage against a threshold is the stage on truth values. -/
theorem stage_le (s : Fin 16) (x : Fin 16 → EReal) (v : EReal) (j : Fin 16) :
    decide (v ≤ stage max min s x j) = stage or and s (fun j => decide (v ≤ x j)) j := by
  simp only [stage]
  split
  · rw [decide_eq_decide.mpr le_max_iff, Bool.decide_or]
  · rw [decide_eq_decide.mpr le_min_iff, Bool.decide_and]

/-- The merge against a threshold is the merge on truth values. -/
theorem mergeBy_le (a b : Fin 16 → EReal) (v : EReal) (j : Fin 16) :
    decide (v ≤ mergeBy max min a b j) = mergeBy or and (fun j => decide (v ≤ a j)) (fun j => decide (v ≤ b j)) j := by
  have e : ∀ s (x : Fin 16 → EReal), (fun j => decide (v ≤ stage max min s x j)) = stage or and s fun j => decide (v ≤ x j) :=
    fun s x => funext (stage_le s x v)
  simp only [mergeBy]
  rw [stage_le, e, e, e]
  congr 5
  funext j
  rw [decide_eq_decide.mpr le_max_iff, Bool.decide_or]

/-- On truth values: `p` leading truths merged with `q` trailing ones are `p + q` leading truths. -/
theorem merge_bool : ∀ p q : Fin 17, ∀ j : Fin 16,
    mergeBy or and (fun j => decide (j.val < p.val)) (fun j => decide (15 - j.val < q.val)) j = decide (j.val < p.val + q.val) := by
  decide +kernel

/-- The merge of a family's listing with another's listing turned round is the listing of the two together. -/
theorem Lists.merge {ι κ : Type} [Fintype ι] [Fintype κ] {f : ι → EReal} {g : κ → EReal} {t u : Fin 16 → EReal}
    (ht : Lists f t) (hu : Lists g u) : Lists (Sum.elim f g) (mergeBy max min t fun j => u (Fin.rev j)) := by
  intro i x hx
  have key := mergeBy_le t (fun j => u (Fin.rev j)) x i
  have h1 : (fun j => decide (x ≤ t j)) = fun j : Fin 16 => decide (j.val < min (above f x) 16) := by
    funext j; rw [decide_eq_decide, ht j x hx]; have := j.isLt; omega
  have h2 : (fun j => decide (x ≤ u (Fin.rev j))) = fun j : Fin 16 => decide (15 - j.val < min (above g x) 16) := by
    funext j; rw [decide_eq_decide, hu _ x hx, Fin.val_rev]; have := j.isLt; omega
  rw [h1, h2, merge_bool ⟨min (above f x) 16, by omega⟩ ⟨min (above g x) 16, by omega⟩ i, decide_eq_decide] at key
  rw [key, above_sum]
  have := i.isLt
  simp only
  omega

end Cert.TopK
-- ==== Proof.MergeRead.lean ====
/- The printed merge read at one place: `merged` at row `r` is the merge of the rows. -/
module

public import proofs.«01_k».proof.Proof.Merge
public import proofs.«01_k».proof.Proof.Values
public import Idealize.ShloMosaic.Lib.Pointwise

@[expose] public section

noncomputable section

namespace Cert.TopK

open Cert.KernelIdeal Cert.KernelIdeal.Gen Idealize.ShloMosaic Idealize.SL.Sem

set_option maxRecDepth 16384

/-- One printed stage from the mask, the row turned left and the row turned right. -/
def turned (m : IVec S512x16 1) (x l r : FVec Ideal S512x16 .f32) : FVec Ideal S512x16 .f32 :=
  select m (maximumf x (select m l r)) (minimumf x (select m l r))

/-- The lanes whose bit `w` is clear. -/
def clear (w : BitVec 32) : IVec S512x16 1 :=
  cmpi .eq (andi (iota .tc S512x16 32 [1] iota_S512x16_d1_w32) (broadcast S512x16 w)) (broadcast S512x16 0#32)

/-- The printed stage of places 8 apart, -/
def stage8 (x : FVec Ideal S512x16 .f32) : FVec Ideal S512x16 .f32 :=
  turned (clear 8#32) x
    (concatenate S512x16 1 [⟨S512x8, extractStridedSlice S512x8 ![0, 8] x slices_S512x16_o0_8_S512x8⟩,
      ⟨S512x8, extractStridedSlice S512x8 ![0, 0] x slices_S512x16_o0_0_S512x8⟩] concatenates_S512x8_S512x8_S512x16_d1)
    (concatenate S512x16 1 [⟨S512x8, extractStridedSlice S512x8 ![0, 8] x slices_S512x16_o0_8_S512x8⟩,
      ⟨S512x8, extractStridedSlice S512x8 ![0, 0] x slices_S512x16_o0_0_S512x8⟩] concatenates_S512x8_S512x8_S512x16_d1)

/-- read at a place. -/
theorem stage8_apply (x : FVec Ideal S512x16 .f32) (r : Fin 512) (j : Fin 16) :
    stage8 x (ix2 r j) = stage max min 8 (fun j => x (ix2 r j)) j := by
  pointwise [stage8, turned, clear]
  fin_cases j <;> rfl

/-- The printed stage of places 4 apart, -/
def stage4 (x : FVec Ideal S512x16 .f32) : FVec Ideal S512x16 .f32 :=
  turned (clear 4#32) x
    (concatenate S512x16 1 [⟨S512x12, extractStridedSlice S512x12 ![0, 4] x slices_S512x16_o0_4_S512x12⟩,
      ⟨S512x4, extractStridedSlice S512x4 ![0, 0] x slices_S512x16_o0_0_S512x4⟩] concatenates_S512x12_S512x4_S512x16_d1)
    (concatenate S512x16 1 [⟨S512x4, extractStridedSlice S512x4 ![0, 12] x slices_S512x16_o0_12_S512x4⟩,
      ⟨S512x12, extractStridedSlice S512x12 ![0, 0] x slices_S512x16_o0_0_S512x12⟩] concatenates_S512x4_S512x12_S512x16_d1)

/-- read at a place. -/
theorem stage4_apply (x : FVec Ideal S512x16 .f32) (r : Fin 512) (j : Fin 16) :
    stage4 x (ix2 r j) = stage max min 4 (fun j => x (ix2 r j)) j := by
  pointwise [stage4, turned, clear]
  fin_cases j <;> rfl

/-- The printed stage of places 2 apart, -/
def stage2 (x : FVec Ideal S512x16 .f32) : FVec Ideal S512x16 .f32 :=
  turned (clear 2#32) x
    (concatenate S512x16 1 [⟨S512x14, extractStridedSlice S512x14 ![0, 2] x slices_S512x16_o0_2_S512x14⟩,
      ⟨S512x2, extractStridedSlice S512x2 ![0, 0] x slices_S512x16_o0_0_S512x2⟩] concatenates_S512x14_S512x2_S512x16_d1)
    (concatenate S512x16 1 [⟨S512x2, extractStridedSlice S512x2 ![0, 14] x slices_S512x16_o0_14_S512x2⟩,
      ⟨S512x14, extractStridedSlice S512x14 ![0, 0] x slices_S512x16_o0_0_S512x14⟩] concatenates_S512x2_S512x14_S512x16_d1)

/-- read at a place. -/
theorem stage2_apply (x : FVec Ideal S512x16 .f32) (r : Fin 512) (j : Fin 16) :
    stage2 x (ix2 r j) = stage max min 2 (fun j => x (ix2 r j)) j := by
  pointwise [stage2, turned, clear]
  fin_cases j <;> rfl

/-- The printed stage of places 1 apart, -/
def stage1 (x : FVec Ideal S512x16 .f32) : FVec Ideal S512x16 .f32 :=
  turned (clear 1#32) x
    (concatenate S512x16 1 [⟨S512x15, extractStridedSlice S512x15 ![0, 1] x slices_S512x16_o0_1_S512x15⟩,
      ⟨S512x1, extractStridedSlice S512x1 ![0, 0] x slices_S512x16_o0_0_S512x1⟩] concatenates_S512x15_S512x1_S512x16_d1)
    (concatenate S512x16 1 [⟨S512x1, extractStridedSlice S512x1 ![0, 15] x slices_S512x16_o0_15_S512x1⟩,
      ⟨S512x15, extractStridedSlice S512x15 ![0, 0] x slices_S512x16_o0_0_S512x15⟩] concatenates_S512x1_S512x15_S512x16_d1)

/-- read at a place. -/
theorem stage1_apply (x : FVec Ideal S512x16 .f32) (r : Fin 512) (j : Fin 16) :
    stage1 x (ix2 r j) = stage max min 1 (fun j => x (ix2 r j)) j := by
  pointwise [stage1, turned, clear]
  fin_cases j <;> rfl

/-- The printed merge is the pairs and the four stages. -/
theorem merged_eq (a b : FVec Ideal S512x16 .f32) : merged a b = stage1 (stage2 (stage4 (stage8 (maximumf a b)))) := rfl

/-- The printed merge read at a place: the merge of the two rows. -/
theorem merged_apply (a b : FVec Ideal S512x16 .f32) (r : Fin 512) (j : Fin 16) :
    merged a b (ix2 r j) = mergeBy max min (fun j => a (ix2 r j)) (fun j => b (ix2 r j)) j := by
  rw [merged_eq, stage1_apply]
  simp only [stage2_apply, stage4_apply, stage8_apply]
  rfl

end Cert.TopK
-- ==== Proof.Sorted.lean ====
/- A stable sort of a row's negated entries brings its greatest entries to the front, the greatest first. -/
module

public import proofs.«01_k».proof.Proof.Ranks
public import Idealize.ShloMosaic.Lib.SortFacts
public import Idealize.ShloMosaic.Lib.Pointwise
public import Mathlib.Order.Interval.Finset.Fin

@[expose] public section

noncomputable section

namespace Cert.TopK

open Idealize.ShloMosaic
open scoped BigOperators

/-- The comparison of two entries by their negations. -/
def precedes {n : ℕ} (f : Fin n → EReal) (k k' : Fin n) : Bool := decide (-f k < -f k')

/-- Along the sorted positions the entries fall. -/
theorem sorted_falls {n : ℕ} (f : Fin n → EReal) {i j : Fin n} (h : i ≤ j) :
    f (sortedFrom (precedes f) j) ≤ f (sortedFrom (precedes f) i) := by
  rcases h.eq_or_lt with rfl | h
  · exact le_rfl
  have key := sortedFrom_noInversion (precedes f) (precedes f)
    (fun a b hab => by simp only [precedes, decide_eq_true_eq, decide_eq_false_iff_not, not_lt] at hab ⊢; exact hab.le)
    (fun a b hab => hab)
    (fun a b c hab hbc => by simp only [precedes, decide_eq_false_iff_not, not_lt] at hab hbc ⊢; exact hbc.trans hab)
    i j h
  simp only [precedes, decide_eq_false_iff_not, not_lt] at key
  exact EReal.neg_le_neg_iff.mp key

/-- The first sorted positions list the greatest entries. -/
theorem sorted_lists {n k : ℕ} (hk : k ≤ n) (f : Fin n → EReal) :
    Lists f fun i : Fin k => f (sortedFrom (precedes f) (i.castLE hk)) := by
  intro i x _
  let e : Fin n ≃ Fin n := Equiv.ofBijective (sortedFrom (precedes f)) ⟨sortedFrom_injective _, sortedFrom_surjective _⟩
  rw [← above_equiv e f x]
  change x ≤ f (e (i.castLE hk)) ↔ _
  have hfall : ∀ {a b : Fin n}, a ≤ b → f (e b) ≤ f (e a) := fun h => sorted_falls f h
  have hcard : above (fun j => f (e j)) x = (Finset.univ.filter fun j => x ≤ f (e j)).card := by
    rw [Finset.card_filter]; rfl
  rw [hcard]
  constructor
  · intro hx
    have hsub : Finset.Iic (i.castLE hk) ⊆ Finset.univ.filter fun j => x ≤ f (e j) := fun j hj =>
      Finset.mem_filter.mpr ⟨Finset.mem_univ _, hx.trans (hfall (Finset.mem_Iic.mp hj))⟩
    have := Finset.card_le_card hsub
    rw [Fin.card_Iic] at this
    simpa using this
  · intro hlt
    by_contra hx
    have hsub : (Finset.univ.filter fun j => x ≤ f (e j)) ⊆ Finset.Iio (i.castLE hk) := fun j hj => by
      rw [Finset.mem_Iio]
      by_contra hle
      exact hx ((Finset.mem_filter.mp hj).2.trans (hfall (not_lt.mp hle)))
    have := Finset.card_le_card hsub
    rw [Fin.card_Iio] at this
    simp only [Fin.val_castLE] at this
    omega

/-- An index moved along its second axis. -/
theorem along_ix2 {a b : ℕ} (r : Fin a) (j k : Fin b) : (ix2 r j : (⟨2, ![a, b]⟩ : Shape).Idx).along 1 k = ix2 r k := by
  funext d
  match d with
  | ⟨0, _⟩ => rfl
  | ⟨1, _⟩ => rfl

/-- A sort along the columns of a two-dimensional array, at one place. -/
theorem sort_ix2 {a b : ℕ} {α : Type} (cmp : α → α → BitVec 1) (x : (⟨2, ![a, b]⟩ : Shape).Idx → α) (r : Fin a) (j : Fin b) :
    Host.sort ⟨2, ![a, b]⟩ 1 cmp x (ix2 r j)
      = x (ix2 r (sortedFrom (fun k k' => cmp (x (ix2 r k)) (x (ix2 r k')) == 1#1) j)) := by
  have hd : 1 < (⟨2, ![a, b]⟩ : Shape).rank := Nat.one_lt_two
  rw [Host.sort, dif_pos hd]
  show x ((ix2 r j).along 1 (sortedFrom (fun k k' : Fin b => cmp (x ((ix2 r j).along 1 k)) (x ((ix2 r j).along 1 k')) == 1#1) j)) = _
  simp only [along_ix2]
  exact congrArg x (along_ix2 r j _)

/-- The second result of a sort of two arrays together, at one place. -/
theorem sort2_ix2 {a b : ℕ} {α β : Type} (cmp : α × β → α × β → BitVec 1) (x : (⟨2, ![a, b]⟩ : Shape).Idx → α)
    (y : (⟨2, ![a, b]⟩ : Shape).Idx → β) (r : Fin a) (j : Fin b) :
    (Host.sort2 ⟨2, ![a, b]⟩ 1 cmp x y).2 (ix2 r j)
      = y (ix2 r (sortedFrom (fun k k' => cmp (x (ix2 r k), y (ix2 r k)) (x (ix2 r k'), y (ix2 r k')) == 1#1) j)) := by
  have hd : 1 < (⟨2, ![a, b]⟩ : Shape).rank := Nat.one_lt_two
  rw [Host.sort2, dif_pos hd]
  show y ((ix2 r j).along 1 (sortedFrom (fun k k' : Fin b => cmp (x ((ix2 r j).along 1 k), y ((ix2 r j).along 1 k))
    (x ((ix2 r j).along 1 k'), y ((ix2 r j).along 1 k')) == 1#1) j)) = _
  simp only [along_ix2]
  exact congrArg y (along_ix2 r j _)

end Cert.TopK
-- ==== Proof.Rounds.lean ====
/- Sixteen rounds of "take the greatest head, shift the lane that holds it", over 128 lanes of four falling values: while
   the values to be taken are distinct, round `i` takes the `i`-th greatest of all the values held. -/
module

public import proofs.«01_k».proof.Proof.Ranks
public import Mathlib.Order.Interval.Finset.Nat
public import Mathlib.Data.Finset.Lattice.Fold

@[expose] public section

noncomputable section

namespace Cert.TopK

open scoped BigOperators

/-- One row of the lanes: four values to each. -/
structure Row where
  s1 : Fin 128 → EReal
  s2 : Fin 128 → EReal
  s3 : Fin 128 → EReal
  s4 : Fin 128 → EReal

namespace Row

/-- The greatest head. -/
def head (q : Row) : EReal := Finset.univ.sup q.s1

/-- The shift of the lanes whose head is the greatest. -/
def pop (q : Row) : Row where
  s1 l := if q.s1 l = q.head then q.s2 l else q.s1 l
  s2 l := if q.s1 l = q.head then q.s3 l else q.s2 l
  s3 l := if q.s1 l = q.head then q.s4 l else q.s3 l
  s4 l := if q.s1 l = q.head then ⊥ else q.s4 l

/-- How many of a lane's four values are at least `x`. -/
def lane (q : Row) (x : EReal) (l : Fin 128) : ℕ := one x (q.s1 l) + one x (q.s2 l) + one x (q.s3 l) + one x (q.s4 l)

/-- How many of all the values held are at least `x`. -/
def held (q : Row) (x : EReal) : ℕ := ∑ l, q.lane x l

/-- Every lane falls. -/
def Falls (q : Row) : Prop := ∀ l, q.s2 l ≤ q.s1 l ∧ q.s3 l ≤ q.s2 l ∧ q.s4 l ≤ q.s3 l

/-- The row after `i` rounds. -/
def after : ℕ → Row → Row
  | 0, q => q
  | i + 1, q => pop (after i q)

theorem exists_head (q : Row) : ∃ l, q.s1 l = q.head := by
  obtain ⟨l, _, h⟩ := Finset.exists_mem_eq_sup Finset.univ ⟨(0 : Fin 128), Finset.mem_univ _⟩ q.s1
  exact ⟨l, h.symm⟩

theorem le_head (q : Row) (l : Fin 128) : q.s1 l ≤ q.head := Finset.le_sup (Finset.mem_univ l)

theorem pop_falls {q : Row} (h : q.Falls) : q.pop.Falls := by
  intro l
  obtain ⟨h1, h2, h3⟩ := h l
  simp only [pop]
  split
  · exact ⟨h2, h3, bot_le⟩
  · exact ⟨h1, h2, h3⟩

/-- The greatest head reaches a threshold exactly when some value held does. -/
theorem le_head_iff {q : Row} (h : q.Falls) (x : EReal) : x ≤ q.head ↔ 0 < q.held x := by
  obtain ⟨l, hl⟩ := q.exists_head
  constructor
  · intro hx
    have h1 : 0 < q.lane x l := by
      unfold lane; rw [one_of_le (hl ▸ hx)]; omega
    exact lt_of_lt_of_le h1 (Finset.single_le_sum (f := q.lane x) (fun _ _ => Nat.zero_le _) (Finset.mem_univ l))
  · intro hp
    obtain ⟨k, _, hk⟩ := Finset.sum_pos_iff.mp hp
    by_contra hx
    obtain ⟨h1, h2, h3⟩ := h k
    have n1 : ¬x ≤ q.s1 k := fun hh => hx (hh.trans (q.le_head k))
    have n2 : ¬x ≤ q.s2 k := fun hh => n1 (hh.trans h1)
    have n3 : ¬x ≤ q.s3 k := fun hh => n2 (hh.trans h2)
    have n4 : ¬x ≤ q.s4 k := fun hh => n3 (hh.trans h3)
    unfold lane at hk
    rw [one_of_not_le n1, one_of_not_le n2, one_of_not_le n3, one_of_not_le n4] at hk
    exact absurd hk (lt_irrefl _)

/-- With one value held at the greatest head's level, a shift takes one value away from every lower level. -/
theorem held_pop {q : Row} (h1 : q.held q.head = 1) {x : EReal} (hx : x ≠ ⊥) (hle : x ≤ q.head) :
    q.pop.held x + 1 = q.held x := by
  obtain ⟨l, hl⟩ := q.exists_head
  have hu : ∀ k, k ≠ l → q.s1 k ≠ q.head := by
    intro k hk hkh
    have ha : 1 ≤ q.lane q.head l := by unfold lane; rw [one_of_le hl.ge]; omega
    have hb : 1 ≤ q.lane q.head k := by unfold lane; rw [one_of_le hkh.ge]; omega
    have hs : q.lane q.head k ≤ ∑ i ∈ Finset.univ.erase l, q.lane q.head i :=
      Finset.single_le_sum (f := q.lane q.head) (fun _ _ => Nat.zero_le _) (Finset.mem_erase.mpr ⟨hk, Finset.mem_univ k⟩)
    have ht := Finset.add_sum_erase Finset.univ (q.lane q.head) (Finset.mem_univ l)
    unfold held at h1
    omega
  have hrest : ∑ k ∈ Finset.univ.erase l, q.pop.lane x k = ∑ k ∈ Finset.univ.erase l, q.lane x k :=
    Finset.sum_congr rfl fun k hk => by
      have hn := hu k (Finset.mem_erase.mp hk).1
      simp only [lane, pop, if_neg hn]
  have hlane : q.pop.lane x l + 1 = q.lane x l := by
    simp only [lane, pop, if_pos hl, one_bot hx]
    rw [one_of_le (a := q.s1 l) (hl ▸ hle)]
    omega
  unfold held
  rw [← Finset.add_sum_erase Finset.univ (q.pop.lane x) (Finset.mem_univ l),
    ← Finset.add_sum_erase Finset.univ (q.lane x) (Finset.mem_univ l), hrest]
  omega

/-- What holds before round `i`: the lanes fall, and down to the last value to be taken the values held are those of
    `t` from place `i` on. -/
structure Ready (q : Row) (t : Fin 16 → EReal) (i : ℕ) : Prop where
  falls : q.Falls
  count : ∀ x, t 15 ≤ x → ∀ j : Fin 16, i ≤ j.val → (x ≤ t j ↔ j.val < q.held x + i)

/-- Round `i` takes `t i`. -/
theorem Ready.head_eq {q : Row} {t : Fin 16 → EReal} {i : Fin 16} (h : Ready q t i.val) (hl : ∀ j, t 15 ≤ t j) :
    q.head = t i := by
  have h1 : t i ≤ q.head := by
    rw [le_head_iff h.falls]
    have := (h.count (t i) (hl i) i le_rfl).mp le_rfl
    omega
  refine le_antisymm ?_ h1
  rw [h.count _ ((hl i).trans h1) i le_rfl]
  have := (le_head_iff h.falls q.head).mp le_rfl
  omega

/-- Rounds before the last leave the lanes ready for the next. -/
theorem Ready.pop {q : Row} {t : Fin 16 → EReal} {i : ℕ} (hi : i + 1 < 16) (h : Ready q t i)
    (hl : ∀ j, t 15 ≤ t j) (hb : t 15 ≠ ⊥) (hs : ∀ j j' : Fin 16, j < j' → t j' < t j) : Ready q.pop t (i + 1) := by
  have hm : q.head = t ⟨i, by omega⟩ := Ready.head_eq (i := ⟨i, by omega⟩) h hl
  refine ⟨pop_falls h.falls, fun x hx j hj => ?_⟩
  by_cases hle : x ≤ q.head
  · have hone : q.held q.head = 1 := by
      have hp := (le_head_iff h.falls q.head).mp le_rfl
      have hq := h.count q.head (hm ▸ hl _) ⟨i + 1, hi⟩ (Nat.le_succ i)
      have hlt : ¬q.head ≤ t ⟨i + 1, hi⟩ := by
        rw [hm, not_le]; exact hs _ _ (by simp [Fin.lt_def])
      have := mt hq.mpr hlt
      simp only at this
      omega
    have hd := held_pop hone (fun hxb => hb (le_bot_iff.mp (hxb ▸ hx))) hle
    rw [h.count x hx j (by omega)]
    omega
  · have h0 : ¬0 < q.held x := mt (le_head_iff h.falls x).mpr hle
    have h0' : ¬x ≤ t j := by
      rw [h.count x hx j (by omega)]; omega
    have h1 : ¬0 < q.pop.held x := by
      rw [← le_head_iff (pop_falls h.falls)]
      intro hx'
      refine hle (hx'.trans ?_)
      obtain ⟨k, hk⟩ := q.pop.exists_head
      rw [← hk]
      simp only [Row.pop]
      split
      · exact (h.falls k).1.trans (q.le_head k)
      · exact q.le_head k
    refine ⟨fun hh => absurd hh h0', fun hh => ?_⟩
    omega

/-- From lanes ready for round 0, round `i` takes `t i`. -/
theorem Ready.taken {q : Row} {t : Fin 16 → EReal} (h : Ready q t 0) (hl : ∀ j, t 15 ≤ t j) (hb : t 15 ≠ ⊥)
    (hs : ∀ j j' : Fin 16, j < j' → t j' < t j) (i : Fin 16) : (after i.val q).head = t i := by
  have key : ∀ n : ℕ, n < 16 → Ready (after n q) t n := by
    intro n
    induction n with
    | zero => exact fun _ => h
    | succ n ih => exact fun hn => (ih (by omega)).pop hn hl hb hs
  exact (key i.val i.isLt).head_eq hl

end Row

end Cert.TopK
-- ==== Proof.LanesRead.lean ====
/- The printed lanes and rounds read row by row. -/
module

public import proofs.«01_k».proof.Proof.Rounds
public import proofs.«01_k».proof.Proof.Values
public import Idealize.ShloMosaic.Lib.Pointwise

@[expose] public section

noncomputable section

namespace Cert.TopK

open Cert.KernelIdeal Cert.KernelIdeal.Gen Idealize.ShloMosaic Idealize.SL.Sem

set_option maxRecDepth 16384

/-- The literal the kernel starts its maxima from is minus infinity. -/
theorem ofBits_bottom : Ideal.ofBits .f32 4286578688#32 = ⊥ := by simp [Ideal.ofBits, Ideal.ieee]

/-- Row `r` of the lanes. -/
def row (q : Lanes Ideal) (r : Fin 512) : Row where
  s1 l := q.s1 (ix2 r l)
  s2 l := q.s2 (ix2 r l)
  s3 l := q.s3 (ix2 r l)
  s4 l := q.s4 (ix2 r l)

/-- The greatest head of a row. -/
theorem headMax_apply (s : FVec Ideal S512x128 .f32) (r : Fin 512) (u : Fin 1) :
    headMax s (ix2 r u) = Finset.univ.sup fun l : Fin 128 => s (ix2 r l) := by
  pointwise [headMax]
  rw [ofBits_bottom]
  rfl

/-- A select by "this head is its row's greatest". -/
theorem select_atMax (s : FVec Ideal S512x128 .f32) (r : Fin 512) (l : Fin 128) (a b : EReal) :
    Scalar.select (atMax s (ix2 r l)) a b = if s (ix2 r l) = Finset.univ.sup fun l : Fin 128 => s (ix2 r l) then a else b := by
  pointwise [atMax, headMax_apply]

/-- The printed shift is the rows' shift. -/
theorem row_pop (q : Lanes Ideal) (r : Fin 512) : row (pop q) r = (row q r).pop := by
  have h : ∀ (x y : FVec Ideal S512x128 .f32) (l : Fin 128), select (atMax q.s1) x y (ix2 r l)
      = if (row q r).s1 l = (row q r).head then x (ix2 r l) else y (ix2 r l) := fun x y l => select_atMax q.s1 r l _ _
  have hb : ∀ l : Fin 128, bottoms (F := Ideal) (ix2 r l) = ⊥ := fun l => ofBits_bottom
  simp only [row, pop, Row.pop] at h ⊢
  simp only [h, hb]
  rfl

theorem row_after (q : Lanes Ideal) (r : Fin 512) (i : ℕ) : row (after i q) r = Row.after i (row q r) := by
  induction i with
  | zero => rfl
  | succ i ih => rw [after, row_pop, ih, Row.after]

/-- What round `i` takes in row `r`. -/
theorem taken_apply (q : Lanes Ideal) (r : Fin 512) (i : ℕ) (u : Fin 1) :
    taken q i (ix2 r u) = (Row.after i (row q r)).head := by
  rw [taken, headMax_apply, ← row_after]; rfl

theorem falling_eq_ofFn (q : Lanes Ideal) : falling q
    = concatenate S512x16 1 (List.ofFn fun n : Fin 16 => (⟨S512x1, taken q n.val⟩ : (s : Shape) × (s.Idx → Ideal .f32)))
      concatenates_S512x1_S512x1_S512x1_S512x1_S512x1_S512x1_S512x1_S512x1_S512x1_S512x1_S512x1_S512x1_S512x1_S512x1_S512x1_S512x1_S512x16_d1 := rfl

theorem rising_eq_ofFn (q : Lanes Ideal) : rising q
    = shapeCast S512x16 (concatenate S512x16 1
      (List.ofFn fun n : Fin 16 => (⟨S512x1, taken q (Fin.rev n).val⟩ : (s : Shape) × (s.Idx → Ideal .f32)))
      concatenates_S512x1_S512x1_S512x1_S512x1_S512x1_S512x1_S512x1_S512x1_S512x1_S512x1_S512x1_S512x1_S512x1_S512x1_S512x1_S512x1_S512x16_d1)
      shapeCasts_S512x16_S512x16 := rfl

/-- The falling listing at place `j`: what round `j` takes. -/
theorem falling_apply (q : Lanes Ideal) (r : Fin 512) (j : Fin 16) :
    falling q (ix2 r j) = (Row.after j.val (row q r)).head := by
  rw [falling_eq_ofFn]
  pointwise [taken_apply]

/-- The rising listing at place `j`: what round `15 - j` takes. -/
theorem rising_apply (q : Lanes Ideal) (r : Fin 512) (j : Fin 16) :
    rising q (ix2 r j) = (Row.after (Fin.rev j).val (row q r)).head := by
  rw [rising_eq_ofFn]
  pointwise [taken_apply]

/-- The values of slot `s` of row `r`, one to a chunk. -/
def slot (x : Vec Ideal S512x4096 .bf16) (r : Fin 512) (s : Fin 256) (k : ℕ) : EReal :=
  if h : k < 16 then x (ix2 r ⟨256 * k + s.val, by have := s.isLt; omega⟩) else ⊥

/-- The chunk pass's first maxima, over all sixteen chunks, -/
def firsts (x : Vec Ideal S512x4096 .bf16) : FVec Ideal S512x256 .f32 := k0_pay37 (k0_pay2 x) (k0_pay13 x) (k0_pay15 x)

/-- and its second. -/
def seconds (x : Vec Ideal S512x4096 .bf16) : FVec Ideal S512x256 .f32 :=
  k0_pay38 (k0_pay2 x) (k0_pay13 x) (k0_pay14 x) (k0_pay15 x) (k0_pay16 x)

theorem firsts_apply (x : Vec Ideal S512x4096 .bf16) (r : Fin 512) (s : Fin 256) :
    firsts x (ix2 r s) = run1 (slot x r s) 16 := by
  unfold firsts
  unfold_payloads
  pointwise [run1, slot, ofBits_bottom]

theorem seconds_apply (x : Vec Ideal S512x4096 .bf16) (r : Fin 512) (s : Fin 256) :
    seconds x (ix2 r s) = run2 (slot x r s) 16 := by
  unfold seconds
  unfold_payloads
  pointwise [run1, run2, slot, ofBits_bottom]

/-- The two slots of lane `l`. -/
def lo (l : Fin 128) : Fin 256 := ⟨l.val, by have := l.isLt; omega⟩

@[inherit_doc lo]
def hi (l : Fin 128) : Fin 256 := ⟨128 + l.val, by have := l.isLt; omega⟩

/-- The four values each lane starts with, of the two greatest of its two slots. -/
theorem row_lanesOf (x : Vec Ideal S512x4096 .bf16) (r : Fin 512) : row (lanesOf x) r =
    { s1 := fun l => max (firsts x (ix2 r (lo l))) (firsts x (ix2 r (hi l)))
      s2 := fun l => max (min (firsts x (ix2 r (lo l))) (firsts x (ix2 r (hi l)))) (max (seconds x (ix2 r (lo l))) (seconds x (ix2 r (hi l))))
      s3 := fun l => min (min (firsts x (ix2 r (lo l))) (firsts x (ix2 r (hi l)))) (max (seconds x (ix2 r (lo l))) (seconds x (ix2 r (hi l))))
      s4 := fun l => min (seconds x (ix2 r (lo l))) (seconds x (ix2 r (hi l))) } := by
  have a1 : ∀ l, k0_pay39 (k0_pay2 x) (k0_pay13 x) (k0_pay15 x) (ix2 r l) = firsts x (ix2 r (lo l)) := fun l => by
    pointwise [k0_pay39, firsts, lo]
  have b1 : ∀ l, k0_pay40 (k0_pay2 x) (k0_pay13 x) (k0_pay15 x) (ix2 r l) = firsts x (ix2 r (hi l)) := fun l => by
    pointwise [k0_pay40, firsts, hi]
  have a2 : ∀ l, k0_pay41 (k0_pay2 x) (k0_pay13 x) (k0_pay14 x) (k0_pay15 x) (k0_pay16 x) (ix2 r l) = seconds x (ix2 r (lo l)) := fun l => by
    pointwise [k0_pay41, seconds, lo]
  have b2 : ∀ l, k0_pay42 (k0_pay2 x) (k0_pay13 x) (k0_pay14 x) (k0_pay15 x) (k0_pay16 x) (ix2 r l) = seconds x (ix2 r (hi l)) := fun l => by
    pointwise [k0_pay42, seconds, hi]
  simp only [← a1, ← b1, ← a2, ← b2]
  rfl

end Cert.TopK
-- ==== Proof.Ready.lean ====
/- The lanes before the first round: where no slot has more than two entries among the greatest sixteen, the four values
   of every lane hold all of them. -/
module

public import proofs.«01_k».proof.Proof.LanesRead

@[expose] public section

noncomputable section

namespace Cert.TopK

open Cert.KernelIdeal Cert.KernelIdeal.Gen Idealize.ShloMosaic Idealize.SL.Sem
open scoped BigOperators

theorem run2_le (v : ℕ → EReal) (n : ℕ) : run2 v n ≤ run1 v n := by
  induction n with
  | zero => exact le_rfl
  | succ n ih => exact max_le_max ih (min_le_right _ _)

/-- A lower threshold counts no fewer. -/
theorem upTo_anti (v : ℕ → EReal) (n : ℕ) {x y : EReal} (h : y ≤ x) : upTo v n x ≤ upTo v n y := by
  refine Finset.sum_le_sum fun k _ => ?_
  by_cases hx : x ≤ v k
  · rw [one_of_le hx, one_of_le (h.trans hx)]
  · rw [one_of_not_le hx]; exact Nat.zero_le _

/-- The lanes fall. -/
theorem lanes_fall (v : Vec Ideal S512x4096 .bf16) (r : Fin 512) : (row (lanesOf v) r).Falls := by
  intro l
  rw [row_lanesOf]
  simp only [firsts_apply, seconds_apply]
  have ha := run2_le (slot v r (lo l)) 16
  have hb := run2_le (slot v r (hi l)) 16
  refine ⟨max_le (min_le_of_left_le (le_max_left _ _)) (max_le_max ha hb), min_le_max, le_min (min_le_min ha hb) ?_⟩
  exact min_le_max

/-- Above a threshold that no slot has reached more than twice, a lane's four values count both its slots. -/
theorem lane_count (v : Vec Ideal S512x4096 .bf16) (r : Fin 512) {x : EReal} (hx : x ≠ ⊥)
    (h : ∀ s, upTo (slot v r s) 16 x ≤ 2) (l : Fin 128) :
    (row (lanesOf v) r).lane x l = upTo (slot v r (lo l)) 16 x + upTo (slot v r (hi l)) 16 x := by
  have ha := h (lo l)
  have hb := h (hi l)
  rw [row_lanesOf]
  simp only [Row.lane, one, le_max_iff, le_min_iff, firsts_apply, seconds_apply, le_run1 _ _ hx, le_run2 _ _ hx]
  generalize upTo (slot v r (lo l)) 16 x = p at *
  generalize upTo (slot v r (hi l)) 16 x = q at *
  interval_cases p <;> interval_cases q <;> rfl

/-- A row's entries by chunk and slot. -/
def entries : Fin 16 × Fin 256 ≃ Fin 4096 := finProdFinEquiv.trans (finCongr (by norm_num))

theorem entries_val (k : Fin 16) (s : Fin 256) : (entries (k, s)).val = s.val + 256 * k.val := rfl

/-- All slots together count the row. -/
theorem sum_slots (v : Vec Ideal S512x4096 .bf16) (r : Fin 512) (x : EReal) :
    ∑ l, (upTo (slot v r (lo l)) 16 x + upTo (slot v r (hi l)) 16 x) = above (fun j : Fin 4096 => v (ix2 r j)) x := by
  have h1 : ∑ l, (upTo (slot v r (lo l)) 16 x + upTo (slot v r (hi l)) 16 x) = ∑ s : Fin 256, upTo (slot v r s) 16 x := by
    rw [Finset.sum_add_distrib]
    exact (Fin.sum_univ_add (a := 128) (b := 128) fun s : Fin 256 => upTo (slot v r s) 16 x).symm
  rw [h1, ← above_equiv entries, above, Fintype.sum_prod_type_right]
  refine Finset.sum_congr rfl fun s _ => ?_
  rw [upTo, ← Fin.sum_univ_eq_sum_range (fun k => one x (slot v r s k)) 16]
  refine Finset.sum_congr rfl fun k _ => ?_
  have e : slot v r s k.val = v (ix2 r (entries (k, s))) := by
    rw [slot, dif_pos k.isLt]
    exact congrArg (fun z : Fin 4096 => v (ix2 r z)) (Fin.ext ((Nat.add_comm _ _).trans (entries_val k s).symm))
  rw [e]

/-- The lanes start ready: every value down to the sixteenth greatest is held. -/
theorem lanes_ready {v : Vec Ideal S512x4096 .bf16} {r : Fin 512} {t : Fin 16 → EReal}
    (ht : Lists (fun j : Fin 4096 => v (ix2 r j)) t) (hb : t 15 ≠ ⊥) (h : ∀ s, upTo (slot v r s) 16 (t 15) ≤ 2) :
    (row (lanesOf v) r).Ready t 0 := by
  refine ⟨lanes_fall v r, fun x hx j _ => ?_⟩
  have hx' : x ≠ ⊥ := fun e => hb (le_bot_iff.mp (e ▸ hx))
  have hheld : (row (lanesOf v) r).held x = above (fun j : Fin 4096 => v (ix2 r j)) x := by
    rw [← sum_slots]
    exact Finset.sum_congr rfl fun l _ => lane_count v r hx' (fun s => (upTo_anti _ _ hx).trans (h s)) l
  rw [hheld, Nat.add_zero]
  exact ht j x hx'

/-- So the two listings a device makes of a row are its greatest sixteen, first to last -/
theorem falling_lists {v : Vec Ideal S512x4096 .bf16} {r : Fin 512} {t : Fin 16 → EReal}
    (ht : Lists (fun j : Fin 4096 => v (ix2 r j)) t) (hb : t 15 ≠ ⊥) (h : ∀ s, upTo (slot v r s) 16 (t 15) ≤ 2)
    (hs : ∀ j j' : Fin 16, j < j' → t j' < t j) (j : Fin 16) : falling (lanesOf v) (ix2 r j) = t j := by
  rw [falling_apply]
  exact (lanes_ready ht hb h).taken (fun j => ht.le (Fin.le_last j)) hb hs j

/-- and last to first. -/
theorem rising_lists {v : Vec Ideal S512x4096 .bf16} {r : Fin 512} {t : Fin 16 → EReal}
    (ht : Lists (fun j : Fin 4096 => v (ix2 r j)) t) (hb : t 15 ≠ ⊥) (h : ∀ s, upTo (slot v r s) 16 (t 15) ≤ 2)
    (hs : ∀ j j' : Fin 16, j < j' → t j' < t j) (j : Fin 16) : rising (lanesOf v) (ix2 r j) = t (Fin.rev j) := by
  rw [rising_apply]
  exact (lanes_ready ht hb h).taken (fun j => ht.le (Fin.le_last j)) hb hs (Fin.rev j)

end Cert.TopK
-- ==== Proof.Precond.lean ====
/- What the precondition `spread` says of a device's block, row by row: the sixteen greatest entries are distinct, and
   no slot (column modulo 256) has more than two entries that reach the last of them. -/
module

public import proofs.«01_k».proof.Proof.Sorted
public import proofs.«01_k».proof.Proof.Ready
public import proofs.«01_k».proof.Proof.Gen.Pre_spread_KernelIdeal
public import Idealize.ShloMosaic.Lib.IndicatorCount
public import Idealize.ShloMosaic.Lib.StableHlo.Predicate
public import Idealize.ShloMosaic.Lib.ReduceAll

@[expose] public section

noncomputable section

namespace Cert.TopK

open Cert.Pre_spread_KernelIdeal Idealize.ShloMosaic Idealize.SL.Sem
open scoped BigOperators

set_option maxRecDepth 16384

/-- A row of a block. -/
def rowOf {n : ℕ} (x : (⟨2, ![512, n]⟩ : Shape).Idx → EReal) (r : Fin 512) (j : Fin n) : EReal := x (ix2 r j)

/-- The sixteen greatest entries of a row, as a sort of its negation brings them to the front. -/
def tops {n : ℕ} (hn : 16 ≤ n) (x : (⟨2, ![512, n]⟩ : Shape).Idx → EReal) (r : Fin 512) (i : Fin 16) : EReal :=
  rowOf x r (sortedFrom (precedes (rowOf x r)) (i.castLE hn))

/-- They list the row. -/
theorem tops_lists {n : ℕ} (hn : 16 ≤ n) (x : (⟨2, ![512, n]⟩ : Shape).Idx → EReal) (r : Fin 512) :
    Lists (rowOf x r) (tops hn x r) := sorted_lists hn (rowOf x r)

/-- A conjunction over a set is one only where every part is. -/
theorem fold_andi {ι : Type} (s : Finset ι) (f : ι → BitVec 1) (h : s.fold IntOp.andi 1#1 f = 1#1) {i : ι} (hi : i ∈ s) :
    f i = 1#1 := by
  classical
  induction s using Finset.induction_on with
  | empty => exact absurd hi (Finset.notMem_empty i)
  | insert a s ha ih =>
    rw [Finset.fold_insert ha] at h
    obtain ⟨h1, h2⟩ := IntOp.andi_eq_one.1 h
    rcases Finset.mem_insert.mp hi with rfl | hi
    · exact h1
    · exact ih h2 hi

/-- A count of a slot's entries that reach `t`, in words, that is at most two. -/
theorem count_le (b : Fin 16 → Bool) (t : EReal) (v : ℕ → EReal) (hv : ∀ k : Fin 16, b k = true ↔ t ≤ v k)
    (h : IntOp.cmpi .sle (Finset.univ.fold IntOp.addi 0#32 fun k => (BitVec.ofBool (b k)).setWidth 32) 2#32 = 1#1) :
    upTo v 16 t ≤ 2 := by
  rw [IndicatorCount.fold_addi_setWidth_eq_card] at h
  have hc : (Finset.univ.filter fun k => BitVec.ofBool (b k) = 1#1) = Finset.univ.filter fun k : Fin 16 => t ≤ v k :=
    Finset.filter_congr fun k _ => by rw [← hv]; cases b k <;> simp
  rw [hc] at h
  have hle : (Finset.univ.filter fun k : Fin 16 => t ≤ v k).card ≤ 16 := (Finset.card_filter_le _ _).trans (by simp)
  rw [StableHlo.Predicate.sle_iff_toNat (by rw [BitVec.toNat_ofNat]; omega) (by decide), BitVec.toNat_ofNat] at h
  have h2 : (2#32 : BitVec 32).toNat = 2 := rfl
  have hu : upTo v 16 t = (Finset.univ.filter fun k : Fin 16 => t ≤ v k).card := by
    rw [Finset.card_filter]
    exact (Fin.sum_univ_eq_sum_range (fun k => one t (v k)) 16).symm
  omega

/-- A truth value's bit is one exactly when it holds. -/
theorem bit_eq_one (b : Bool) (h : BitVec.ofBool b = 1#1) : b = true := by cases b <;> simp_all

/-- What a printed comparator compares: zeros made one zero, and what is not a number made one such. -/
def normal (y : EReal) : EReal :=
  Scalar.select (Ideal.cmp .une y y) (Ideal.ofBits .f32 0x7FC00000#32)
    (Scalar.select (Ideal.cmp .oeq y (Ideal.ofBits .f32 0x00000000#32)) (Ideal.ofBits .f32 0x00000000#32) y)

/-- Of an extended real it is the value itself. -/
theorem normal_eq (y : EReal) : normal y = y := by
  have h0 : Ideal.ofBits .f32 0#32 = 0 := by simp [Ideal.ofBits, Ideal.ieee]
  rw [normal, h0]
  by_cases hy : y = 0
  · subst hy; simp [Ideal.cmp, Scalar.select]
  · simp [Ideal.cmp, Scalar.select, hy]

variable [Facts]

/-- The printed comparator compares the values. -/
theorem comparator_eq (l r : Ideal .f32) : comparator_f32_d1 l r = BitVec.ofBool (decide ((l : EReal) < r)) := by
  show Ideal.cmp .olt (normal l) (normal r) = _
  rw [normal_eq, normal_eq]
  rfl

/-- The printed sort of the negated block, negated back, at one of the first sixteen places. -/
theorem sort_apply (x : FVec Ideal S512x4096 .bf16) (h : FTy.bits .bf16 < FTy.bits .f32) (r : Fin 512) (j : Fin 4096) (i : Fin 16)
    (hj : j.val = i.val) : -(fn_sort (Host.negf (extf .f32 x h)) (ix2 r j) : EReal) = tops (by norm_num) x r i := by
  have hb : (fun k k' : Fin 4096 => comparator_f32_d1 (Host.negf (extf .f32 x h) (ix2 r k)) (Host.negf (extf .f32 x h) (ix2 r k')) == 1#1)
      = precedes (rowOf x r) := by
    funext k k'
    rw [comparator_eq]
    show (BitVec.ofBool (decide (-(x (ix2 r k) : EReal) < -(x (ix2 r k') : EReal))) == 1#1) = decide (-(x (ix2 r k) : EReal) < -(x (ix2 r k') : EReal))
    by_cases hlt : -(x (ix2 r k) : EReal) < -(x (ix2 r k') : EReal) <;> simp [hlt]
  have he : fn_sort (Host.negf (extf .f32 x h)) (ix2 r j)
      = Host.negf (extf .f32 x h) (ix2 r (sortedFrom (precedes (rowOf x r)) j)) := by
    rw [← hb]
    exact sort_ix2 comparator_f32_d1 (Host.negf (extf .f32 x h)) r j
  rw [he]
  show -(-(x (ix2 r (sortedFrom (precedes (rowOf x r)) j)) : EReal)) = _
  rw [neg_neg]
  have : j = i.castLE (by norm_num) := Fin.ext hj
  rw [this]; rfl

/-- What the precondition gives of every row. -/
structure Spread (x : FVec Ideal S512x4096 .bf16) (r : Fin 512) : Prop where
  falls : ∀ i : Fin 15, tops (by norm_num) x r i.succ < tops (by norm_num) x r i.castSucc
  held : ∀ s : Fin 256, upTo (slot x r s) 16 (tops (by norm_num) x r 15) ≤ 2

theorem spread_of_pre (x : FVec Ideal S512x4096 .bf16) (h : Cert.Pre_spread_KernelIdeal.fn (F := Ideal) x = fun _ => 1#1)
    (r : Fin 512) : Spread x r := by
  have h' := congrFun h ix0
  pointwise [Cert.Pre_spread_KernelIdeal.fn] at h'
  obtain ⟨h1, h2⟩ := IntOp.andi_eq_one.1 h'
  constructor
  · intro i
    have e := fold_andi _ _ h1 (Finset.mem_univ (r, i))
    have e := of_decide_eq_true (bit_eq_one _ e)
    rw [sort_apply x _ r _ i.succ (by simp [Nat.add_comm]), sort_apply x _ r _ i.castSucc rfl] at e
    exact e
  · intro s
    have e := fold_andi _ _ h2 (Finset.mem_univ (r, s))
    refine count_le _ _ _ (fun k => ?_) e
    have hs : slot x r s k.val = x (ix2 r ⟨k.val * 256 + s.val, by omega⟩) := by
      rw [slot, dif_pos k.isLt]
      exact congrArg (fun z : Fin 4096 => (x (ix2 r z) : EReal)) (Fin.ext (by
        show 256 * k.val + s.val = k.val * 256 + s.val
        omega))
    exact decide_eq_true_iff.trans (iff_of_eq (congrArg₂ (· ≤ ·) (sort_apply x _ r _ 15 rfl) hs.symm))

/-- The sixteen greatest entries fall strictly. -/
theorem Spread.strict {x : FVec Ideal S512x4096 .bf16} {r : Fin 512} (h : Spread x r) :
    ∀ j j' : Fin 16, j < j' → tops (by norm_num) x r j' < tops (by norm_num) x r j := by
  intro j j' hj
  exact (Fin.strictAnti_iff_succ_lt (f := tops (by norm_num) x r)).2 h.falls hj

/-- The last of them is above minus infinity: a slot holds sixteen entries, and all of them reach that. -/
theorem Spread.last {x : FVec Ideal S512x4096 .bf16} {r : Fin 512} (h : Spread x r) :
    tops (by norm_num) x r 15 ≠ ⊥ := by
  intro e
  have h0 := h.held 0
  rw [e, upTo, Finset.sum_congr rfl fun k _ => one_of_le bot_le] at h0
  simp at h0

end Cert.TopK
-- ==== Proof.Reference.lean ====
/- What the reference's printed program computes: at row `r` and place `j`, the `j`-th of the row's entries in the order
   of the sort of its negation. -/
module

public import proofs.«01_k».proof.Proof.Precond
public import proofs.«01_k».proof.Proof.Gen.ReferenceIdeal
public import Idealize.ShloMosaic.Lib.Pointwise

@[expose] public section

noncomputable section

namespace Cert.TopK

open Cert.ReferenceIdeal Cert.ReferenceIdeal.Gen Idealize.ShloMosaic Idealize.SL.Sem
open scoped BigOperators

set_option maxRecDepth 16384

/-- The columns the reference takes: the first sixteen of the sort's permutation, negative ones counted from the end. -/
def columns (x : FVec Ideal S512x8192 .bf16) : IVec S512x16 32 :=
  let i := extractStridedSlice S512x16 ![0, 0] ((Host.sort2 S512x8192 1 comparator_f32_i32_d1 (Host.negf (extf .f32 x bitsLt_bf16_f32)) (iotaInDim S512x8192 32 1)).2) slices_S512x8192_S512x16_0_0
  select (cmpi .slt i (broadcastInDim S512x16 ![] bcast_S_S512x16 (constantI S_ 32 0#32)))
    (addi i (broadcastInDim S512x16 ![] bcast_S_S512x16 (constantI S_ 32 8192#32))) i

/-- The reference's result of the whole array `x`. -/
def expected (x : FVec Ideal S512x8192 .bf16) : FVec Ideal S512x16 .f32 :=
  select (Host.reduce IntOp.andi (andi
      (cmpi .sge (shapeCast S512x16x1 (columns x) shapeCasts_S512x16_S512x16x1) (broadcastInDim S512x16x1 ![] bcast_S_S512x16x1 (constantI S_ 32 0#32)))
      (cmpi .sle (shapeCast S512x16x1 (columns x) shapeCasts_S512x16_S512x16x1) (broadcastInDim S512x16x1 ![0, 1, 2] bcast_S1x1x1_S512x16x1_0_1_2 (broadcastInDim S1x1x1 ![2] bcast_S1_S1x1x1_2 (constantI S1 32 8191#32)))))
      (constantI S_ 1 1#1) reducesTo_S512x16x1_S512x16_d2 h_S_)
    (Host.gather gather_S512x8192_S512x16x1_S512x16_n_1_0_0_1_2_11 (extf .f32 x bitsLt_bf16_f32) (shapeCast S512x16x1 (columns x) shapeCasts_S512x16_S512x16x1))
    (broadcastInDim S512x16 ![] bcast_S_S512x16 (constant S_ .f32 0x7FC00000#32))

/-- The reference's comparator compares the values of its pairs. -/
theorem pairs_eq (l r : Ideal .f32 × BitVec 32) :
    comparator_f32_i32_d1 l r = BitVec.ofBool (decide ((l.1 : EReal) < r.1)) := by
  show Ideal.cmp .olt (normal l.1) (normal r.1) = _
  rw [normal_eq, normal_eq]
  rfl

/-- The column of the `j`-th entry of row `r`. -/
def place (x : FVec Ideal S512x8192 .bf16) (r : Fin 512) (j : Fin 16) : Fin 8192 :=
  sortedFrom (precedes (rowOf x r)) (j.castLE (by norm_num))

/-- The sort's permutation at one of the first sixteen places. -/
theorem argsort_apply (x : FVec Ideal S512x8192 .bf16) (r : Fin 512) (j : Fin 16) (j' : Fin 8192) (hj : j'.val = j.val) :
    (Host.sort2 S512x8192 1 comparator_f32_i32_d1 (Host.negf (extf .f32 x bitsLt_bf16_f32)) (iotaInDim S512x8192 32 1)).2 (ix2 r j')
      = BitVec.ofNat 32 (place x r j).val := by
  refine (sort2_ix2 comparator_f32_i32_d1 (Host.negf (extf .f32 x bitsLt_bf16_f32)) (iotaInDim S512x8192 32 1) r j').trans ?_
  have hb : (fun k k' : Fin 8192 => comparator_f32_i32_d1 (Host.negf (extf .f32 x bitsLt_bf16_f32) (ix2 r k), iotaInDim S512x8192 32 1 (ix2 r k))
      (Host.negf (extf .f32 x bitsLt_bf16_f32) (ix2 r k'), iotaInDim S512x8192 32 1 (ix2 r k')) == 1#1) = precedes (rowOf x r) := by
    funext k k'
    rw [pairs_eq]
    show (BitVec.ofBool (decide (-(x (ix2 r k) : EReal) < -(x (ix2 r k') : EReal))) == 1#1) = decide (-(x (ix2 r k) : EReal) < -(x (ix2 r k') : EReal))
    by_cases hlt : -(x (ix2 r k) : EReal) < -(x (ix2 r k') : EReal) <;> simp [hlt]
  rw [hb]
  have : j' = j.castLE (by norm_num) := Fin.ext hj
  rw [this]
  rfl

/-- A column's number, in words, is read back as itself. -/
theorem toNat_column (k : Fin 8192) : (BitVec.ofNat 32 k.val).toNat = k.val := by
  rw [BitVec.toNat_ofNat]
  have := k.isLt
  omega

theorem toInt_column (k : Fin 8192) : (BitVec.ofNat 32 k.val).toInt = k.val := by
  have := k.isLt
  rw [BitVec.toInt_eq_toNat_of_lt (by rw [toNat_column]; omega), toNat_column]

/-- It is not negative, so it is taken as it is. -/
theorem columns_apply (x : FVec Ideal S512x8192 .bf16) (r : Fin 512) (j : Fin 16) :
    columns x (ix2 r j) = BitVec.ofNat 32 (place x r j).val := by
  pointwise [columns]
  rw [argsort_apply x r j _ rfl]
  have hk := (place x r j).isLt
  have h : IntOp.cmpi .slt (BitVec.ofNat 32 (place x r j).val) 0#32 ≠ 1#1 := by
    rw [Ne, StableHlo.Predicate.slt_iff_toNat (by rw [toNat_column]; omega) (by decide)]
    exact Nat.not_lt_zero _
  exact if_neg h

/-- It is below the row's length, so nothing is masked. -/
theorem columns_inside (x : FVec Ideal S512x8192 .bf16) (r : Fin 512) (j : Fin 16) :
    IntOp.andi (IntOp.cmpi .sge (columns x (ix2 r j)) 0#32) (IntOp.cmpi .sle (columns x (ix2 r j)) 8191#32) = 1#1 := by
  have hk := (place x r j).isLt
  rw [columns_apply, IntOp.andi_eq_one, StableHlo.Predicate.sge_iff_toNat (by rw [toNat_column]; omega) (by decide),
    StableHlo.Predicate.sle_iff_toNat (by rw [toNat_column]; omega) (by decide), toNat_column]
  have h8 : (8191#32 : BitVec 32).toNat = 8191 := rfl
  exact ⟨Nat.zero_le _, by omega⟩

/-- The reference's gather reads, in every row, the entry at the column its index names. -/
theorem gather_apply {α : Type} (x : S512x8192.Idx → α) (i : IVec S512x16x1 32) (r : Fin 512) (j : Fin 16) (k : Fin 8192)
    (h : (i (ix3 r j 0)).toInt = k.val) :
    Host.gather gather_S512x8192_S512x16x1_S512x16_n_1_0_0_1_2_11 x i (ix2 r j) = x (ix2 r k) := by
  have row : ∀ a : Fin 2, a = 0 → a ∈ gather_S512x8192_S512x16x1_S512x16_n_1_0_0_1_2_11.operandBatchingDims := by
    rintro _ rfl; exact List.mem_singleton.mpr rfl
  have column : ∀ a : Fin 2, a = 1 → a ∈ gather_S512x8192_S512x16x1_S512x16_n_1_0_0_1_2_11.startIndexMap := by
    rintro _ rfl; exact List.mem_singleton.mpr rfl
  have none : ∀ a : Fin 2, gather_S512x8192_S512x16x1_S512x16_n_1_0_0_1_2_11.offCoord (ix2 r j) a = 0 := by
    intro a
    refine GatherDims.offCoord_eq_zero _ _ _ fun ha => ?_
    have ha := (GatherDims.mem_sKept _ _).mp ha
    match a with
    | ⟨0, _⟩ => exact ha.2 (List.mem_singleton.mpr rfl)
    | ⟨1, _⟩ => exact ha.1 (List.mem_singleton.mpr rfl)
  unfold Host.gather
  refine congrArg x (funext fun a => Fin.ext ?_)
  show GatherDims.start _ (ix2 r j) i a + GatherDims.batchCoord _ (ix2 r j) a + GatherDims.offCoord _ (ix2 r j) a = _
  rw [none a, Nat.add_zero]
  rcases (by decide : ∀ a : Fin 2, a = 0 ∨ a = 1) a with rfl | rfl
  · rw [GatherDims.start_batching _ _ _ _ (row 0 rfl), Nat.zero_add, GatherDims.batchCoord, dif_pos (row 0 rfl)]
    rfl
  · rw [GatherDims.batchCoord_eq_zero _ _ _ (fun ha => absurd (List.mem_singleton.mp ha) (by decide)), Nat.add_zero,
      GatherDims.start, dif_pos (column 1 rfl)]
    have e : gather_S512x8192_S512x16x1_S512x16_n_1_0_0_1_2_11.siIdx (ix2 r j)
        ⟨List.idxOf (1 : Fin 2) gather_S512x8192_S512x16x1_S512x16_n_1_0_0_1_2_11.startIndexMap,
          List.idxOf_lt_length_iff.2 (column 1 rfl)⟩ = ix3 r j 0 := by
      funext b
      match b with
      | ⟨0, _⟩ => exact Fin.ext rfl
      | ⟨1, _⟩ => exact Fin.ext rfl
      | ⟨2, _⟩ => exact Fin.ext rfl
    have hk := k.isLt
    show min (i (gather_S512x8192_S512x16x1_S512x16_n_1_0_0_1_2_11.siIdx (ix2 r j) _)).toInt.toNat (8192 - 1) = k.val
    rw [e, h]
    omega

/-- So the reference's result is the entry at that column. -/
theorem expected_apply (x : FVec Ideal S512x8192 .bf16) (r : Fin 512) (j : Fin 16) :
    expected x (ix2 r j) = tops (by norm_num) x r j := by
  have hi : (shapeCast S512x16x1 (columns x) shapeCasts_S512x16_S512x16x1 (ix3 r j 0)).toInt = (place x r j).val := by
    have : shapeCast S512x16x1 (columns x) shapeCasts_S512x16_S512x16x1 (ix3 r j 0) = columns x (ix2 r j) := by pointwise
    rw [this, columns_apply, toInt_column]
  pointwise [expected]
  rw [gather_apply _ _ r j _ hi, Finset.fold_congr fun _ _ => columns_inside x r j]
  have h1 : Finset.univ.fold IntOp.andi 1#1 (fun _ : Fin 1 => 1#1) = 1#1 := by decide
  exact if_pos h1

end Cert.TopK
-- ==== Proof.Agree.lean ====
/- Under the precondition every device's result is the reference's: a device and its partner hold the two halves of every
   row, each lists its half's sixteen greatest entries, and the merge of the two lists the whole row's. -/
module

public import proofs.«01_k».proof.Proof.Run
public import proofs.«01_k».proof.Proof.Merge
public import proofs.«01_k».proof.Proof.MergeRead
public import proofs.«01_k».proof.Proof.Precond
public import proofs.«01_k».proof.Proof.Reference
public import Idealize.ShloMosaic.Lib.Layout

@[expose] public section

noncomputable section

namespace Cert.TopK

open Idealize.ShloMosaic Idealize.ShloMosaic.TcCoe Idealize.SL.Sem
open Cert.KernelIdeal
open scoped BigOperators

set_option maxRecDepth 16384

/-- The column of the whole array at which device `c` holds its column `j`. -/
def column (c : Dev nD) (j : Fin 4096) : Fin 8192 := ⟨c.val / 4 * 4096 + j.val, by have := c.isLt; have : nD = 8 := rfl; omega⟩

/-- Device `c`'s block of the whole array `x`. -/
def part (x : FVec Ideal ⟨2, ![512, 8192]⟩ .bf16) (c : Dev nD) : FVec Ideal S512x4096 .bf16 :=
  Layout.blockN ⟨2, ![512, 4096]⟩ ⟨2, ![512, 8192]⟩ (Layout.meshBlock [2, 2, 2] ![[], [0]] c) x

/-- A block's columns are the device's columns of the whole array. -/
theorem part_apply (x : FVec Ideal ⟨2, ![512, 8192]⟩ .bf16) (c : Dev nD) (r : Fin 512) (j : Fin 4096) :
    part x c (ix2 r j) = x (ix2 r (column c j)) := by
  have h : ∀ c : Dev nD, Layout.meshLin [2, 2, 2] c.val [] = 0 ∧ Layout.meshLin [2, 2, 2] c.val [0] = c.val / 4 := by decide
  unfold part
  refine congrArg x (funext fun a => Fin.ext ?_)
  rcases (by decide : ∀ a : Fin 2, a = 0 ∨ a = 1) a with rfl | rfl
  · show Layout.meshLin [2, 2, 2] c.val [] * 512 + r.val = r.val
    rw [(h c).1, Nat.zero_mul, Nat.zero_add]
  · show Layout.meshLin [2, 2, 2] c.val [0] * 4096 + j.val = c.val / 4 * 4096 + j.val
    rw [(h c).2]

/-- A row's entries at least `y` are those of its halves. -/
theorem above_halves (x : FVec Ideal ⟨2, ![512, 8192]⟩ .bf16) (r : Fin 512) (y : EReal) (c d : Dev nD)
    (hc : c.val / 4 = 0) (hd : d.val / 4 = 1) :
    above (rowOf x r) y = above (rowOf (part x c) r) y + above (rowOf (part x d) r) y := by
  rw [above, Fin.sum_univ_add (a := 4096) (b := 4096) fun j : Fin 8192 => one y (rowOf x r j)]
  refine congrArg₂ (· + ·) (Finset.sum_congr rfl fun j _ => congrArg (one y) ?_) (Finset.sum_congr rfl fun j _ => congrArg (one y) ?_)
  · refine ((part_apply x c r j).trans (congrArg (fun k : Fin 8192 => x (ix2 r k)) (Fin.ext ?_))).symm
    show c.val / 4 * 4096 + j.val = j.val
    omega
  · refine ((part_apply x d r j).trans (congrArg (fun k : Fin 8192 => x (ix2 r k)) (Fin.ext ?_))).symm
    show d.val / 4 * 4096 + j.val = 4096 + j.val
    omega

/-- A device and its partner hold a row between them. -/
theorem above_pair (x : FVec Ideal ⟨2, ![512, 8192]⟩ .bf16) (r : Fin 512) (y : EReal) (c : Dev nD) :
    above (Sum.elim (rowOf (part x c) r) (rowOf (part x (partner c)) r)) y = above (rowOf x r) y := by
  rw [above_sum]
  have h : ∀ c : Dev nD, (c.val / 4 = 0 ∧ (partner c).val / 4 = 1) ∨ ((partner c).val / 4 = 0 ∧ c.val / 4 = 1) := by decide
  rcases h c with ⟨h0, h1⟩ | ⟨h0, h1⟩
  · exact (above_halves x r y _ _ h0 h1).symm
  · exact (Nat.add_comm _ _).trans (above_halves x r y _ _ h0 h1).symm

/-- The listing a device makes of a row of its block, -/
theorem falling_part (v : FVec Ideal S512x4096 .bf16) (r : Fin 512) (h : Spread v r) :
    (fun j => (falling (F := Ideal) (lanesOf v) (ix2 r j) : EReal)) = tops (by norm_num) v r :=
  funext fun j => falling_lists (tops_lists (by norm_num) v r) h.last h.held h.strict j

/-- and the one it sends. -/
theorem rising_part (v : FVec Ideal S512x4096 .bf16) (r : Fin 512) (h : Spread v r) :
    (fun j => (rising (F := Ideal) (lanesOf v) (ix2 r j) : EReal)) = fun j => tops (by norm_num) v r (Fin.rev j) :=
  funext fun j => rising_lists (tops_lists (by norm_num) v r) h.last h.held h.strict j

/-- The merge of a device's listing with its partner's is the whole row's. -/
theorem row_agree (x : FVec Ideal ⟨2, ![512, 8192]⟩ .bf16) (c : Dev nD) (r : Fin 512) (j : Fin 16)
    (hc : Spread (part x c) r) (hd : Spread (part x (partner c)) r) :
    merged (F := Ideal) (falling (F := Ideal) (lanesOf (part x c))) (rising (F := Ideal) (lanesOf (part x (partner c)))) (ix2 r j) = tops (by norm_num) x r j := by
  rw [merged_apply, falling_part _ r hc, rising_part _ r hd]
  exact congrFun (Lists.eq (fun y => above_pair x r y c)
    ((tops_lists (by norm_num) (part x c) r).merge (tops_lists (by norm_num) (part x (partner c)) r))
    (tops_lists (by norm_num) x r)) j

variable (m : (ℓ : Loc nD τ sig) → Buf (Elt Ideal) ℓ) (ρ : Dev nD → PrngReg)

/-- Every device's result is the reference's of the whole array. -/
theorem results_agree (x : FVec Ideal ⟨2, ![512, 8192]⟩ .bf16)
    (hpre : ∀ c : Dev nD, Cert.Pre_spread_KernelIdeal.fn (F := Ideal) (m ((c : Thread nD τ).loc main_arg0)) = fun _ => 1#1)
    (hx : ∀ c : Dev nD, m ((c : Thread nD τ).loc main_arg0) = part x c) (c : Dev nD) :
    result m ρ c = expected x := by
  have hb : ∀ c, blockOf m ρ c = part x c := fun c => (blockOf_eq m ρ c).trans (hx c)
  have hs : ∀ c r, Spread (part x c) r := fun c r => spread_of_pre (part x c) (by rw [← hx c]; exact hpre c) r
  funext i
  obtain ⟨r, j, rfl⟩ : ∃ r j, i = ix2 r j := ⟨i 0, i 1, ValueIdx.eq_ix2 i⟩
  rw [result, sends, hb, hb]
  exact (row_agree x c r j (hs c r) (hs (partner c) r)).trans (expected_apply x r j).symm

end Cert.TopK
-- ==== Proof.Level.lean ====
/- What happens on an array that is zero everywhere, which is far from meeting `spread`: the reference gives zeros, and
   the kernel gives eight zeros and then minus infinity, since each device's lanes are popped all at once and are empty
   after four rounds. -/
module

public import proofs.«01_k».proof.Proof.Agree
public import proofs.«01_k».proof.Proof.Gen.Pre_level
public import proofs.«01_k».proof.Proof.Gen.Pre_level_whole
public import proofs.«01_k».proof.Proof.Gen.Post_short
public import proofs.«01_k».proof.Proof.Gen.Post_flat
public import Idealize.ShloMosaic.Lib.Pointwise

@[expose] public section

noncomputable section

namespace Cert.TopK

open Idealize.ShloMosaic Idealize.ShloMosaic.TcCoe Idealize.SL.Sem
open Cert.KernelIdeal
open scoped BigOperators

set_option maxRecDepth 16384

/-- A conjunction of ones is one. -/
theorem fold_ones {ι : Type} (s : Finset ι) (f : ι → BitVec 1) (h : ∀ i, f i = 1#1) : s.fold IntOp.andi 1#1 f = 1#1 := by
  classical
  induction s using Finset.induction_on with
  | empty => rfl
  | insert a s ha ih => rw [Finset.fold_insert ha, ih, h]; rfl

namespace Row

/-- A row whose lanes are all alike. -/
def alike (a b c d : EReal) : Row := ⟨fun _ => a, fun _ => b, fun _ => c, fun _ => d⟩

theorem head_alike (a b c d : EReal) : (alike a b c d).head = a :=
  Finset.sup_const ⟨(0 : Fin 128), Finset.mem_univ _⟩ a

/-- All of its lanes are popped. -/
theorem pop_alike (a b c d : EReal) : (alike a b c d).pop = alike b c d ⊥ := by
  have h : ∀ l, (alike a b c d).s1 l = (alike a b c d).head := fun l => (head_alike a b c d).symm
  simp only [pop, h, if_true]
  rfl

/-- What the rounds take of a row of zeros. -/
theorem after_alike (j : Fin 16) : (after j.val (alike 0 0 0 0)).head = if j.val < 4 then 0 else ⊥ := by
  fin_cases j <;> simp [after, pop_alike, head_alike]

end Row

/-- The running two greatest of zeros are zero. -/
theorem run_zero (v : ℕ → EReal) (h : ∀ k < 16, v k = 0) : run1 v 16 = 0 ∧ run2 v 16 = 0 := by
  have hu : ∀ x, upTo v 16 x = 16 * one x 0 := fun x => by
    rw [upTo, Finset.sum_congr rfl fun k hk => by rw [h k (Finset.mem_range.mp hk)]]
    simp
  constructor
  · refine eq_of_thresholds fun x hx => ?_
    rw [le_run1 v 16 hx, hu]
    by_cases h0 : x ≤ 0
    · simp [one_of_le h0, h0]
    · simp [one_of_not_le h0, h0]
  · refine eq_of_thresholds fun x hx => ?_
    rw [le_run2 v 16 hx, hu]
    by_cases h0 : x ≤ 0
    · simp [one_of_le h0, h0]
    · simp [one_of_not_le h0, h0]

/-- The lanes of a row of zeros are alike. -/
theorem lanes_zero (x : Vec Ideal S512x4096 .bf16) (h : ∀ r j, x (ix2 r j) = (0 : EReal)) (r : Fin 512) :
    row (lanesOf x) r = Row.alike 0 0 0 0 := by
  have hs : ∀ s k, k < 16 → slot x r s k = 0 := fun s k hk => by rw [slot, dif_pos hk, h]
  rw [row_lanesOf]
  simp only [firsts_apply, seconds_apply, (run_zero _ (hs _)).1, (run_zero _ (hs _)).2, max_self, min_self]
  rfl

/-- Four zeros, then minus infinity. -/
def four (j : Fin 16) : EReal := if j.val < 4 then 0 else ⊥

/-- That lists a family of four zeros. -/
theorem four_lists : Lists (fun _ : Fin 4 => (0 : EReal)) four := by
  intro i x hx
  have ha : above (fun _ : Fin 4 => (0 : EReal)) x = 4 * one x 0 := by simp [above]
  rw [ha, four]
  by_cases h0 : x ≤ 0
  · by_cases hi : i.val < 4 <;> simp [hi, h0, hx, one_of_le h0]
  · by_cases hi : i.val < 4 <;> simp [hi, h0, hx, one_of_not_le h0]

/-- Of two blocks of zeros the merge's last eight are minus infinity. -/
theorem merged_zero (x y : Vec Ideal S512x4096 .bf16) (hx : ∀ r j, x (ix2 r j) = (0 : EReal)) (hy : ∀ r j, y (ix2 r j) = (0 : EReal))
    (r : Fin 512) (j : Fin 16) (hj : 8 ≤ j.val) :
    merged (F := Ideal) (falling (F := Ideal) (lanesOf x)) (rising (F := Ideal) (lanesOf y)) (ix2 r j) = (⊥ : EReal) := by
  have hf : (fun j => (falling (F := Ideal) (lanesOf x) (ix2 r j) : EReal)) = four := funext fun j => by
    rw [falling_apply, lanes_zero x hx, Row.after_alike]; rfl
  have hg : (fun j => (rising (F := Ideal) (lanesOf y) (ix2 r j) : EReal)) = fun j => four (Fin.rev j) := funext fun j => by
    rw [rising_apply, lanes_zero y hy, Row.after_alike]; rfl
  rw [merged_apply, hf, hg]
  by_contra hb
  have h := (four_lists.merge four_lists j _ hb).mp le_rfl
  rw [above_sum] at h
  have h4 : ∀ z, above (fun _ : Fin 4 => (0 : EReal)) z ≤ 4 := fun z => by
    have := one_le_one z 0
    simp only [above, Finset.sum_const, Finset.card_univ, Fintype.card_fin, smul_eq_mul]
    omega
  have h1 := h4 (mergeBy max min four (fun j => four (Fin.rev j)) j)
  omega

/-- The precondition `level`, read at an index. -/
theorem zero_of_level (x : FVec Ideal S512x4096 .bf16) (h : Cert.Pre_level.fn (F := Ideal) x = fun _ => 1#1) (r : Fin 512)
    (j : Fin 4096) : x (ix2 r j) = (0 : EReal) := by
  have h' := congrFun h ix0
  pointwise [Cert.Pre_level.fn] at h'
  exact of_decide_eq_true (bit_eq_one _ (fold_andi _ _ h' (Finset.mem_univ (r, j))))

/-- The precondition `level_whole`, read at an index. -/
theorem zero_of_level_whole (x : FVec Ideal ⟨2, ![512, 8192]⟩ .bf16) (h : Cert.Pre_level_whole.fn (F := Ideal) x = fun _ => 1#1)
    (r : Fin 512) (j : Fin 8192) : x (ix2 r j) = (0 : EReal) := by
  have h' := congrFun h ix0
  pointwise [Cert.Pre_level_whole.fn] at h'
  exact of_decide_eq_true (bit_eq_one _ (fold_andi _ _ h' (Finset.mem_univ (r, j))))

/-- The postcondition `flat` of an array of zeros. -/
theorem flat_of_zero (x : FVec Ideal ⟨2, ![512, 8192]⟩ .bf16) (out : FVec Ideal ⟨2, ![512, 16]⟩ .f32)
    (h : ∀ r j, out (ix2 r j) = (0 : EReal)) : Cert.Post_flat.fn (F := Ideal) x out = fun _ => 1#1 := by
  funext i
  obtain rfl : i = ix0 := ValueIdx.eq_ix0 i
  pointwise [Cert.Post_flat.fn]
  refine fold_ones _ _ fun p => ?_
  exact congrArg BitVec.ofBool (decide_eq_true (h _ _))

/-- The postcondition `short` of an array whose last eight columns are minus infinity. -/
theorem short_of_bottom (x : FVec Ideal S512x4096 .bf16) (out : FVec Ideal S512x16 .f32)
    (h : ∀ r (j : Fin 16), 8 ≤ j.val → out (ix2 r j) = (⊥ : EReal)) : Cert.Post_short.fn (F := Ideal) x out = fun _ => 1#1 := by
  funext i
  obtain rfl : i = ix0 := ValueIdx.eq_ix0 i
  pointwise [Cert.Post_short.fn]
  refine fold_ones _ _ fun p => ?_
  exact congrArg BitVec.ofBool (decide_eq_true ((h p.1 ⟨8 + p.2.val, by omega⟩ (Nat.le_add_right 8 _)).trans_lt EReal.bot_lt_zero))

variable (m : (ℓ : Loc nD τ sig) → Buf (Elt Ideal) ℓ) (ρ : Dev nD → PrngReg)

/-- On blocks of zeros every device's result ends in minus infinities. -/
theorem result_short (hpre : ∀ c : Dev nD, Cert.Pre_level.fn (F := Ideal) (m ((c : Thread nD τ).loc main_arg0)) = fun _ => 1#1)
    (c : Dev nD) : Cert.Post_short.fn (F := Ideal) (m ((c : Thread nD τ).loc main_arg0)) (result m ρ c) = fun _ => 1#1 := by
  refine short_of_bottom _ _ fun r j hj => ?_
  rw [result, sends, blockOf_eq, blockOf_eq]
  exact merged_zero _ _ (zero_of_level _ (hpre c)) (zero_of_level _ (hpre (partner c))) r j hj

/-- On an array of zeros the reference's result is zero. -/
theorem expected_flat (x : FVec Ideal ⟨2, ![512, 8192]⟩ .bf16) (h : Cert.Pre_level_whole.fn (F := Ideal) x = fun _ => 1#1) :
    Cert.Post_flat.fn (F := Ideal) x (expected x) = fun _ => 1#1 :=
  flat_of_zero _ _ fun r j => (expected_apply x r j).trans (zero_of_level_whole x h r _)

end Cert.TopK
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_spread_KernelIdeal
public import proofs.«01_k».proof.Proof.Gen.Pre_spread_ReferenceIdeal
public import proofs.«01_k».proof.Proof.Gen.Pre_level
public import proofs.«01_k».proof.Proof.Gen.Pre_level_whole
public import proofs.«01_k».proof.Proof.Gen.Post_short
public import proofs.«01_k».proof.Proof.Gen.Post_flat
public import proofs.«01_k».proof.Proof.Run
public import proofs.«01_k».proof.Proof.Agree
public import proofs.«01_k».proof.Proof.Level
public import Idealize.ShloMosaic.Adequacy
public import Idealize.ShloMosaic.Init

@[expose] public section

noncomputable section

namespace Cert.Proof

open Idealize.ShloMosaic Idealize.ShloMosaic.TcCoe Idealize.SL.Sem

/-- Over any float values the kernel runs, keeps its argument and ends with every counter zero. -/
theorem frame_any {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c).2, h.2⟩) (Cert.TopK.run_main m g)

/-- The two printings of the kernel have the same bodies, -/
theorem kernels_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (_, _) => rfl
  | ⟨_ + 1, h⟩, _ => exact absurd h (Nat.not_lt.2 (Nat.le_add_left _ _))

theorem tables_eq {F : FTy → Type} [FloatOps F] : Cert.Kernel.defs (F := F) = Cert.KernelIdeal.defs (F := F) :=
  congrArg (Pipeline.defs Cert.KernelIdeal.pcfgs) kernels_eq

/-- so that is the run on bit patterns, -/
theorem frame_kernel : Cert.quiescent_Kernel := fun m g _ => by
  rw [tables_eq]; exact frame_any (F := Bits) m g

/-- and the idealized one. -/
theorem frame_ideal : Cert.quiescent_KernelIdeal := fun m g _ => frame_any (F := Ideal) m g

theorem frame_ideal_level : Cert.quiescent_KernelIdeal_pre_level := fun m g _ => frame_ideal m g trivial

theorem frame_ideal_pre : Cert.quiescent_KernelIdeal_pre_spread_KernelIdeal := fun m g _ => frame_ideal m g trivial

/-- So does the idealized reference. -/
theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

theorem frame_reference_pre : Cert.quiescent_ReferenceIdeal_pre_spread_ReferenceIdeal := fun m g _ => frame_reference m g trivial

theorem frame_reference_level : Cert.quiescent_ReferenceIdeal_pre_level_whole := fun m g _ => frame_reference m g trivial

/-- Under `spread` every device's result is the reference's. -/
theorem value : Cert.algebraic_KernelIdeal_ReferenceIdeal_pre_spread_KernelIdeal := by
  intro m g m' g' hpre hagree
  refine ⟨Cert.TopK.expected (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c => ⟨(h.1 c).1.trans (Cert.TopK.results_agree m g _ hpre hagree c), (h.1 c).2⟩)
      (Cert.TopK.run_main m g)
  · exact (θ_run Cert.ReferenceIdeal.defs _ _).mono (fun _ h => h 0) (Cert.ReferenceIdeal.Value.run (F := Ideal) m' g')

/-- On zeros every device's result ends in eight entries below zero, -/
theorem kernel_short : Cert.holds_KernelIdeal_short_pre_level := fun m g hpre =>
  (θ_run Cert.KernelIdeal.defs _ _).mono (fun _ h c => ⟨(h.1 c).2, by rw [(h.1 c).1]; exact Cert.TopK.result_short m g hpre c⟩)
    (Cert.TopK.run_main m g)

/-- and the reference's is zero. -/
theorem reference_flat : Cert.holds_ReferenceIdeal_flat_pre_level_whole := fun m g hpre =>
  (θ_run Cert.ReferenceIdeal.defs _ _).mono (fun _ h c => ⟨(h c).2, by rw [(h c).1]; exact Cert.TopK.expected_flat _ (hpre c)⟩)
    (Cert.ReferenceIdeal.Value.run (F := Ideal) m g)

theorem claim : Cert.Claim :=
  ⟨Cert.Kernel.Gen.facts, Cert.KernelIdeal.Gen.facts, Cert.ReferenceIdeal.Gen.facts, Cert.Pre_spread_KernelIdeal.Gen.facts, Cert.Pre_level.Gen.facts,
    Cert.Pre_spread_ReferenceIdeal.Gen.facts, Cert.Pre_level_whole.Gen.facts, Cert.Post_short.Gen.facts, Cert.Post_flat.Gen.facts,
    frame_kernel, frame_ideal, frame_ideal_pre, frame_ideal_level, frame_reference, frame_reference_pre, frame_reference_level, trivial, value,
    kernel_short, reference_flat⟩

end Cert.Proof

end
